-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_general_position [hPre_general_position : Cert.Pre_general_position.Facts] (m : (ℓ : Loc Cert.KernelIdeal.nD Cert.KernelIdeal.τ Cert.KernelIdeal.sig) → Buf (Elt Ideal) ℓ) : Prop :=
  ∀ c : Dev Cert.KernelIdeal.nD,
    (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_general_position [hPre_general_position : Cert.Pre_general_position.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_general_position [hKernelIdeal : Cert.KernelIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_general_position m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_general_position [hReferenceIdeal : Cert.ReferenceIdeal.Facts] [hPre_general_position : Cert.Pre_general_position.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_general_position m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_general_position [hKernelIdeal : Cert.KernelIdeal.Facts] [hReferenceIdeal : Cert.ReferenceIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_general_position m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v216)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v216) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v304) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_general_position : Cert.Pre_general_position.Facts),
    quiescent_Kernel (hKernel := hKernel)
    ∧ quiescent_KernelIdeal (hKernelIdeal := hKernelIdeal)
    ∧ quiescent_KernelIdeal_pre_general_position (hKernelIdeal := hKernelIdeal) (hPre_general_position := hPre_general_position)
    ∧ quiescent_ReferenceIdeal (hReferenceIdeal := hReferenceIdeal)
    ∧ quiescent_ReferenceIdeal_pre_general_position (hReferenceIdeal := hReferenceIdeal) (hPre_general_position := hPre_general_position)
    ∧ preserves_Kernel_KernelIdeal
    ∧ algebraic_KernelIdeal_ReferenceIdeal_pre_general_position (hKernelIdeal := hKernelIdeal) (hReferenceIdeal := hReferenceIdeal) (hPre_general_position := hPre_general_position)
-- ==== Pre_general_position.lean ====
abbrev S1x2048x3 : Shape := ⟨3, ![1, 2048, 3]⟩
abbrev S1x4096x3 : Shape := ⟨3, ![1, 4096, 3]⟩
abbrev S1x4096x2x2x2x3 : Shape := ⟨6, ![1, 4096, 2, 2, 2, 3]⟩
abbrev S3 : Shape := ⟨1, ![3]⟩
abbrev S1x3x512x512 : Shape := ⟨4, ![1, 3, 512, 512]⟩
abbrev S_ : Shape := ⟨0, ![]⟩
abbrev S1 : Shape := ⟨1, ![1]⟩
abbrev S1x3 : Shape := ⟨2, ![1, 3]⟩
abbrev S3x3 : Shape := ⟨2, ![3, 3]⟩
abbrev S2048x3 : Shape := ⟨2, ![2048, 3]⟩
abbrev S2048x1 : Shape := ⟨2, ![2048, 1]⟩
abbrev S2048 : Shape := ⟨1, ![2048]⟩
abbrev S2048x2 : Shape := ⟨2, ![2048, 2]⟩
abbrev S4096x3 : Shape := ⟨2, ![4096, 3]⟩
abbrev S4096x3x1 : Shape := ⟨3, ![4096, 3, 1]⟩
abbrev S4096x3x2 : Shape := ⟨3, ![4096, 3, 2]⟩
abbrev S4096x1x1 : Shape := ⟨3, ![4096, 1, 1]⟩
abbrev S4096 : Shape := ⟨1, ![4096]⟩
abbrev S512 : Shape := ⟨1, ![512]⟩
abbrev S1x512x1 : Shape := ⟨3, ![1, 512, 1]⟩
abbrev S512x1x1 : Shape := ⟨3, ![512, 1, 1]⟩
abbrev S1x1x4096 : Shape := ⟨3, ![1, 1, 4096]⟩
abbrev S1x512x4096 : Shape := ⟨3, ![1, 512, 4096]⟩
abbrev S512x1x4096 : Shape := ⟨3, ![512, 1, 4096]⟩
abbrev S512x512x4096 : Shape := ⟨3, ![512, 512, 4096]⟩
abbrev S4096x1 : Shape := ⟨2, ![4096, 1]⟩
abbrev S512x512 : Shape := ⟨2, ![512, 512]⟩
abbrev S512x512x1 : Shape := ⟨3, ![512, 512, 1]⟩

class Facts : Prop where
  reducesTo_S3_S_d0 : S3.ReducesTo [0] S_
  h_S_ : 0 < S_.numel
  bcast_S_S3 : S_.BroadcastsInDim S3 (![] : Fin 0 → Fin S3.rank)
  slices_S3_S1_1 : S3.Slices ![1] S1
  shapeCasts_S1_S_ : S1.ShapeCasts S_
  slices_S3_S1_2 : S3.Slices ![2] S1
  slices_S3_S1_0 : S3.Slices ![0] S1
  bcast_S_S1 : S_.BroadcastsInDim S1 (![] : Fin 0 → Fin S1.rank)
  concatenates_S1_S1_S1_S3_d0 : Shape.Concatenates [S1, S1, S1] S3 0
  bcast_S3_S1x3_1 : S3.BroadcastsInDim S1x3 (![1] : Fin 1 → Fin S1x3.rank)
  concatenates_S1x3_S1x3_S1x3_S3x3_d0 : Shape.Concatenates [S1x3, S1x3, S1x3] S3x3 0
  shapeCasts_S1x2048x3_S2048x3 : S1x2048x3.ShapeCasts S2048x3
  bcast_S1x3_S2048x3_0_1 : S1x3.BroadcastsInDim S2048x3 (![0, 1] : Fin 2 → Fin S2048x3.rank)
  transposes_S3x3_S3x3_1_0 : S3x3.Transposes [1, 0] S3x3
  slices_S2048x3_S2048x1_0_2 : S2048x3.Slices ![0, 2] S2048x1
  shapeCasts_S2048x1_S2048 : S2048x1.ShapeCasts S2048
  slices_S2048x3_S2048x2_0_0 : S2048x3.Slices ![0, 0] S2048x2
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2_0_1 : S2048x1.BroadcastsInDim S2048x2 (![0, 1] : Fin 2 → Fin S2048x2.rank)
  shapeCasts_S1x4096x3_S4096x3 : S1x4096x3.ShapeCasts S4096x3
  bcast_S_S4096x3 : S_.BroadcastsInDim S4096x3 (![] : Fin 0 → Fin S4096x3.rank)
  bcast_S4096x3_S4096x3x1_0_1 : S4096x3.BroadcastsInDim S4096x3x1 (![0, 1] : Fin 2 → Fin S4096x3x1.rank)
  slices_S4096x3x2_S4096x1x1_0_0_0 : S4096x3x2.Slices ![0, 0, 0] S4096x1x1
  shapeCasts_S4096x1x1_S4096 : S4096x1x1.ShapeCasts S4096
  slices_S4096x3x2_S4096x1x1_0_0_1 : S4096x3x2.Slices ![0, 0, 1] S4096x1x1
  slices_S4096x3x2_S4096x1x1_0_1_0 : S4096x3x2.Slices ![0, 1, 0] S4096x1x1
  slices_S4096x3x2_S4096x1x1_0_1_1 : S4096x3x2.Slices ![0, 1, 1] S4096x1x1
  slices_S4096x3x2_S4096x1x1_0_2_0 : S4096x3x2.Slices ![0, 2, 0] S4096x1x1
  slices_S4096x3x2_S4096x1x1_0_2_1 : S4096x3x2.Slices ![0, 2, 1] S4096x1x1
  bcast_S_S4096 : S_.BroadcastsInDim S4096 (![] : Fin 0 → Fin S4096.rank)
  bcast_S_S512 : S_.BroadcastsInDim S512 (![] : Fin 0 → Fin S512.rank)
  bcast_S512_S1x512x1_1 : S512.BroadcastsInDim S1x512x1 (![1] : Fin 1 → Fin S1x512x1.rank)
  bcast_S512_S512x1x1_0 : S512.BroadcastsInDim S512x1x1 (![0] : Fin 1 → Fin S512x1x1.rank)
  bcast_S4096_S1x1x4096_2 : S4096.BroadcastsInDim S1x1x4096 (![2] : Fin 1 → Fin S1x1x4096.rank)
  bcast_S1x512x1_S1x512x4096_0_1_2 : S1x512x1.BroadcastsInDim S1x512x4096 (![0, 1, 2] : Fin 3 → Fin S1x512x4096.rank)
  bcast_S1x1x4096_S1x512x4096_0_1_2 : S1x1x4096.BroadcastsInDim S1x512x4096 (![0, 1, 2] : Fin 3 → Fin S1x512x4096.rank)
  bcast_S512x1x1_S512x1x4096_0_1_2 : S512x1x1.BroadcastsInDim S512x1x4096 (![0, 1, 2] : Fin 3 → Fin S512x1x4096.rank)
  bcast_S1x1x4096_S512x1x4096_0_1_2 : S1x1x4096.BroadcastsInDim S512x1x4096 (![0, 1, 2] : Fin 3 → Fin S512x1x4096.rank)
  bcast_S512x1x4096_S512x512x4096_0_1_2 : S512x1x4096.BroadcastsInDim S512x512x4096 (![0, 1, 2] : Fin 3 → Fin S512x512x4096.rank)
  bcast_S1x512x4096_S512x512x4096_0_1_2 : S1x512x4096.BroadcastsInDim S512x512x4096 (![0, 1, 2] : Fin 3 → Fin S512x512x4096.rank)
  bcast_S1x1x4096_S512x512x4096_0_1_2 : S1x1x4096.BroadcastsInDim S512x512x4096 (![0, 1, 2] : Fin 3 → Fin S512x512x4096.rank)
  bcast_S_S512x512x4096 : S_.BroadcastsInDim S512x512x4096 (![] : Fin 0 → Fin S512x512x4096.rank)
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  reducesTo_S512x512x4096_S512x512_d2 : S512x512x4096.ReducesTo [2] S512x512
  bcast_S512x512_S512x512x1_0_1 : S512x512.BroadcastsInDim S512x512x1 (![0, 1] : Fin 2 → Fin S512x512x1.rank)
  bcast_S512x512x1_S512x512x4096_0_1_2 : S512x512x1.BroadcastsInDim S512x512x4096 (![0, 1, 2] : Fin 3 → Fin S512x512x4096.rank)
  bcast_S4096_S512x512x4096_2 : S4096.BroadcastsInDim S512x512x4096 (![2] : Fin 1 → Fin S512x512x4096.rank)
  dot_S2048x3_S3x3_S2048x3_1_0_0_1_n_n_wf : DotDims.WF S2048x3 S3x3 S2048x3 [1] [0] [0] [1] [] []
  gather_S2048x2_S4096x3x1_S4096x3x2_2_0_n_n_0_2_12_wf : GatherDims.WF S2048x2 S4096x3x1 S4096x3x2 [2] [0] [] [0] [] 2 ![1, 2]
  gather_S2048_S4096x3x1_S4096x3_n_0_n_n_0_2_1_wf : GatherDims.WF S2048 S4096x3x1 S4096x3 [] [0] [] [0] [] 2 ![1]

variable [Facts]

def dot_S2048x3_S3x3_S2048x3_1_0_0_1_n_n : DotDims S2048x3 S3x3 S2048x3 where
  lhsContracting := [1]
  rhsContracting := [0]
  lhsNonContracting := [0]
  rhsNonContracting := [1]
  lhsBatch := []
  rhsBatch := []
  wf := dot_S2048x3_S3x3_S2048x3_1_0_0_1_n_n_wf
def gather_S2048x2_S4096x3x1_S4096x3x2_2_0_n_n_0_2_12 : GatherDims S2048x2 S4096x3x1 S4096x3x2 where
  offsetDims := [2]
  collapsedSliceDims := [0]
  operandBatchingDims := []
  startIndicesBatchingDims := []
  startIndexMap := [0]
  indexVectorDim := 2
  sliceSizes := ![1, 2]
  wf := gather_S2048x2_S4096x3x1_S4096x3x2_2_0_n_n_0_2_12_wf
def gather_S2048_S4096x3x1_S4096x3_n_0_n_n_0_2_1 : GatherDims S2048 S4096x3x1 S4096x3 where
  offsetDims := []
  collapsedSliceDims := [0]
  operandBatchingDims := []
  startIndicesBatchingDims := []
  startIndexMap := [0]
  indexVectorDim := 2
  sliceSizes := ![1]
  wf := gather_S2048_S4096x3x1_S4096x3_n_0_n_n_0_2_1_wf
def fn_norm {F : FTy → Type} [FloatOps F] (arg0 : FVec F S3 .f32) : FVec F S_ .f32 :=
  let v0 : FVec F S3 .f32 := mulf arg0 arg0
  let cst : FVec F S_ .f32 := constant S_ .f32 0x00000000#32
  let v1 : FVec F S_ .f32 := (fun x v => Host.reduceAdd x v reducesTo_S3_S_d0 h_S_) v0 cst
  let v2 : FVec F S_ .f32 := Host.sqrt v1
  v2

def fn_norm_0 {F : FTy → Type} [FloatOps F] (arg0 : FVec F S3 .f32) : FVec F S_ .f32 :=
  let v0 : FVec F S3 .f32 := mulf arg0 arg0
  let cst : FVec F S_ .f32 := constant S_ .f32 0x00000000#32
  let v1 : FVec F S_ .f32 := (fun x v => Host.reduceAdd x v reducesTo_S3_S_d0 h_S_) v0 cst
  let v2 : FVec F S_ .f32 := Host.sqrt v1
  v2

def fn_where {F : FTy → Type} [FloatOps F] (arg0 : IVec S4096 1) (arg1 : FVec F S4096 .f32) (arg2 : FVec F S_ .f32) : FVec F S4096 .f32 :=
  let v0 : FVec F S_ .f32 := id arg2
  let v1 : FVec F S4096 .f32 := broadcastInDim S4096 ![] bcast_S_S4096 v0
  let v2 : FVec F S4096 .f32 := select arg0 arg1 v1
  v2

def fn_where_1 {F : FTy → Type} [FloatOps F] (arg0 : IVec S512x512x4096 1) (arg1 : FVec F S512x512x4096 .f32) (arg2 : FVec F S_ .f32) : FVec F S512x512x4096 .f32 :=
  let v0 : FVec F S_ .f32 := id arg2
  let v1 : FVec F S512x512x4096 .f32 := broadcastInDim S512x512x4096 ![] bcast_S_S512x512x4096 v0
  let v2 : FVec F S512x512x4096 .f32 := select arg0 arg1 v1
  v2

def fn_where_2 {F : FTy → Type} [FloatOps F] (arg0 : IVec S512x512x4096 1) (arg1 : IVec S4096 32) (arg2 : IVec S_ 32) : IVec S512x512x4096 32 :=
  let v0 : IVec S_ 32 := id arg2
  let v1 : IVec S512x512x4096 32 := broadcastInDim S512x512x4096 ![2] bcast_S4096_S512x512x4096_2 arg1
  let v2 : IVec S512x512x4096 32 := broadcastInDim S512x512x4096 ![] bcast_S_S512x512x4096 v0
  let v3 : IVec S512x512x4096 32 := select arg0 v1 v2
  v3

def fn_in_general_position_part10 {F : FTy → Type} [FloatOps F] (v34 : IVec S4096 1) (v188 : FVec F S512x512x4096 .f32) (v191 : IVec S512x512x4096 1) (v204 : IVec S512x512x4096 1) (v205 : FVec F S512x512 .f32) (v210 : IVec S512x512x4096 32) : IVec S512x512x4096 1 :=
  let c_27 : IVec S_ 32 := constantI S_ 32 2147483647#32
  let v211 : IVec S512x512 32 := (fun x v => Host.reduce IntOp.minsi x v reducesTo_S512x512x4096_S512x512_d2 h_S_) v210 c_27
  let v212 : IVec S4096 32 := iotaInDim S4096 32 0
  let v213 : IVec S512x512x4096 1 := noti v191
  let v214 : IVec S512x512x1 32 := broadcastInDim S512x512x1 ![0, 1] bcast_S512x512_S512x512x1_0_1 v211
  let v215 : IVec S1x1x4096 32 := broadcastInDim S1x1x4096 ![2] bcast_S4096_S1x1x4096_2 v212
  let v216 : IVec S512x512x4096 32 := broadcastInDim S512x512x4096 ![0, 1, 2] bcast_S1x1x4096_S512x512x4096_0_1_2 v215
  let v217 : IVec S512x512x4096 32 := broadcastInDim S512x512x4096 ![0, 1, 2] bcast_S512x512x1_S512x512x4096_0_1_2 v214
  let v218 : IVec S512x512x4096 1 := cmpi .eq v216 v217
  let v219 : IVec S512x512x4096 1 := ori v213 v218
  let v220 : FVec F S512x512x1 .f32 := broadcastInDim S512x512x1 ![0, 1] bcast_S512x512_S512x512x1_0_1 v205
  let v221 : FVec F S512x512x4096 .f32 := broadcastInDim S512x512x4096 ![0, 1, 2] bcast_S512x512x1_S512x512x4096_0_1_2 v220
  let v222 : IVec S512x512x4096 1 := cmpf .ogt v188 v221
  let v223 : IVec S512x512x4096 1 := ori v219 v222
  let v224 : IVec S1x1x4096 1 := broadcastInDim S1x1x4096 ![2] bcast_S4096_S1x1x4096_2 v34
  let v225 : IVec S512x512x4096 1 := broadcastInDim S512x512x4096 ![0, 1, 2] bcast_S1x1x4096_S512x512x4096_0_1_2 v224
  let v226 : IVec S512x512x4096 1 := andi v225 v204
  let v227 : IVec S512x512x4096 1 := andi v226 v223
  v227

def fn_in_general_position_part9 {F : FTy → Type} [FloatOps F] (v34 : IVec S4096 1) (v96 : FVec F S512x512x4096 .f32) (v115 : FVec F S512x512x4096 .f32) (v134 : FVec F S512x512x4096 .f32) (v184 : FVec F S512x512x4096 .f32) (v188 : FVec F S512x512x4096 .f32) (v191 : IVec S512x512x4096 1) (v192 : IVec S512x512x4096 1) : IVec S512x512x4096 1 :=
  let cst_22 : FVec F S_ .f32 := constant S_ .f32 0x00000000#32
  let v193 : FVec F S512x512x4096 .f32 := broadcastInDim S512x512x4096 ![] bcast_S_S512x512x4096 cst_22
  let v194 : IVec S512x512x4096 1 := cmpf .une v96 v193
  let cst_23 : FVec F S_ .f32 := constant S_ .f32 0x00000000#32
  let v195 : FVec F S512x512x4096 .f32 := broadcastInDim S512x512x4096 ![] bcast_S_S512x512x4096 cst_23
  let v196 : IVec S512x512x4096 1 := cmpf .une v115 v195
  let v197 : IVec S512x512x4096 1 := andi v194 v196
  let cst_24 : FVec F S_ .f32 := constant S_ .f32 0x00000000#32
  let v198 : FVec F S512x512x4096 .f32 := broadcastInDim S512x512x4096 ![] bcast_S_S512x512x4096 cst_24
  let v199 : IVec S512x512x4096 1 := cmpf .une v134 v198
  let v200 : IVec S512x512x4096 1 := andi v197 v199
  let cst_25 : FVec F S_ .f32 := constant S_ .f32 0x501502F9#32
  let v201 : FVec F S512x512x4096 .f32 := broadcastInDim S512x512x4096 ![] bcast_S_S512x512x4096 cst_25
  let v202 : IVec S512x512x4096 1 := cmpf .olt v184 v201
  let v203 : IVec S512x512x4096 1 := andi v200 v202
  let v204 : IVec S512x512x4096 1 := ori v192 v203
  let cst_26 : FVec F S_ .f32 := constant S_ .f32 0x7F800000#32
  let v205 : FVec F S512x512 .f32 := (fun x v => Host.reduce FloatOps.minimumf x v reducesTo_S512x512x4096_S512x512_d2 h_S_) v188 cst_26
  let v206 : IVec S4096 32 := iotaInDim S4096 32 0
  let v207 : FVec F S512x512x1 .f32 := broadcastInDim S512x512x1 ![0, 1] bcast_S512x512_S512x512x1_0_1 v205
  let v208 : FVec F S512x512x4096 .f32 := broadcastInDim S512x512x4096 ![0, 1, 2] bcast_S512x512x1_S512x512x4096_0_1_2 v207
  let v209 : IVec S512x512x4096 1 := cmpf .oeq v188 v208
  let c : IVec S_ 32 := constantI S_ 32 4095#32
  let v210 : IVec S512x512x4096 32 := fn_where_2 (F := F) v209 v206 c
  fn_in_general_position_part10 (F := F) v34 v188 v191 v204 v205 v210

def fn_in_general_position_part8 {F : FTy → Type} [FloatOps F] (arg1 : FVec F S4096x3 .f32) (v34 : IVec S4096 1) (v96 : FVec F S512x512x4096 .f32) (v115 : FVec F S512x512x4096 .f32) (v134 : FVec F S512x512x4096 .f32) (v158 : IVec S512x512x4096 1) (v161 : FVec F S512x512x4096 .f32) (v164 : FVec F S512x512x4096 .f32) (v167 : FVec F S512x512x4096 .f32) (v171 : FVec F S512x512x4096 .f32) : IVec S512x512x4096 1 :=
  let v172 : FVec F S512x512x4096 .f32 := mulf v161 v171
  let v173 : FVec F S4096x1 .f32 := (extractStridedSlice S4096x1 ![0, 1] · slices_S4096x3_S4096x1_0_1) arg1
  let v174 : FVec F S4096 .f32 := shapeCast S4096 v173 shapeCasts_S4096x1_S4096
  let v175 : FVec F S1x1x4096 .f32 := broadcastInDim S1x1x4096 ![2] bcast_S4096_S1x1x4096_2 v174
  let v176 : FVec F S512x512x4096 .f32 := broadcastInDim S512x512x4096 ![0, 1, 2] bcast_S1x1x4096_S512x512x4096_0_1_2 v175
  let v177 : FVec F S512x512x4096 .f32 := mulf v164 v176
  let v178 : FVec F S512x512x4096 .f32 := addf v172 v177
  let v179 : FVec F S4096x1 .f32 := (extractStridedSlice S4096x1 ![0, 2] · slices_S4096x3_S4096x1_0_2) arg1
  let v180 : FVec F S4096 .f32 := shapeCast S4096 v179 shapeCasts_S4096x1_S4096
  let v181 : FVec F S1x1x4096 .f32 := broadcastInDim S1x1x4096 ![2] bcast_S4096_S1x1x4096_2 v180
  let v182 : FVec F S512x512x4096 .f32 := broadcastInDim S512x512x4096 ![0, 1, 2] bcast_S1x1x4096_S512x512x4096_0_1_2 v181
  let v183 : FVec F S512x512x4096 .f32 := mulf v167 v182
  let v184 : FVec F S512x512x4096 .f32 := addf v178 v183
  let cst_19 : FVec F S_ .f32 := constant S_ .f32 0x3DCCCCCD#32
  let v185 : FVec F S512x512x4096 .f32 := broadcastInDim S512x512x4096 ![] bcast_S_S512x512x4096 cst_19
  let v186 : IVec S512x512x4096 1 := cmpf .ogt v184 v185
  let v187 : IVec S512x512x4096 1 := andi v158 v186
  let cst_20 : FVec F S_ .f32 := constant S_ .f32 0x501502F9#32
  let v188 : FVec F S512x512x4096 .f32 := fn_where_1 (F := F) v187 v184 cst_20
  let cst_21 : FVec F S_ .f32 := constant S_ .f32 0x3DCCCCCD#32
  let v189 : FVec F S512x512x4096 .f32 := broadcastInDim S512x512x4096 ![] bcast_S_S512x512x4096 cst_21
  let v190 : IVec S512x512x4096 1 := cmpf .ogt v184 v189
  let v191 : IVec S512x512x4096 1 := andi v158 v190
  let v192 : IVec S512x512x4096 1 := noti v191
  fn_in_general_position_part9 (F := F) v34 v96 v115 v134 v184 v188 v191 v192

def fn_in_general_position_part7 {F : FTy → Type} [FloatOps F] (arg1 : FVec F S4096x3 .f32) (v34 : IVec S4096 1) (v73 : FVec F S4096 .f32) (v77 : FVec F S4096 .f32) (v96 : FVec F S512x512x4096 .f32) (v115 : FVec F S512x512x4096 .f32) (v134 : FVec F S512x512x4096 .f32) (v146 : IVec S512x512x4096 1) (v149 : FVec F S512x512x4096 .f32) : IVec S512x512x4096 1 :=
  let cst_17 : FVec F S_ .f32 := constant S_ .f32 0x00000000#32
  let v150 : FVec F S512x512x4096 .f32 := broadcastInDim S512x512x4096 ![] bcast_S_S512x512x4096 cst_17
  let v151 : IVec S512x512x4096 1 := cmpf .oge v149 v150
  let v152 : IVec S512x512x4096 1 := andi v146 v151
  let v153 : FVec F S4096 .f32 := Host.absf v73
  let cst_18 : FVec F S_ .f32 := constant S_ .f32 0x322BCC77#32
  let v154 : FVec F S4096 .f32 := broadcastInDim S4096 ![] bcast_S_S4096 cst_18
  let v155 : IVec S4096 1 := cmpf .ogt v153 v154
  let v156 : IVec S1x1x4096 1 := broadcastInDim S1x1x4096 ![2] bcast_S4096_S1x1x4096_2 v155
  let v157 : IVec S512x512x4096 1 := broadcastInDim S512x512x4096 ![0, 1, 2] bcast_S1x1x4096_S512x512x4096_0_1_2 v156
  let v158 : IVec S512x512x4096 1 := andi v152 v157
  let v159 : FVec F S1x1x4096 .f32 := broadcastInDim S1x1x4096 ![2] bcast_S4096_S1x1x4096_2 v77
  let v160 : FVec F S512x512x4096 .f32 := broadcastInDim S512x512x4096 ![0, 1, 2] bcast_S1x1x4096_S512x512x4096_0_1_2 v159
  let v161 : FVec F S512x512x4096 .f32 := Host.divf v96 v160
  let v162 : FVec F S1x1x4096 .f32 := broadcastInDim S1x1x4096 ![2] bcast_S4096_S1x1x4096_2 v77
  let v163 : FVec F S512x512x4096 .f32 := broadcastInDim S512x512x4096 ![0, 1, 2] bcast_S1x1x4096_S512x512x4096_0_1_2 v162
  let v164 : FVec F S512x512x4096 .f32 := Host.divf v115 v163
  let v165 : FVec F S1x1x4096 .f32 := broadcastInDim S1x1x4096 ![2] bcast_S4096_S1x1x4096_2 v77
  let v166 : FVec F S512x512x4096 .f32 := broadcastInDim S512x512x4096 ![0, 1, 2] bcast_S1x1x4096_S512x512x4096_0_1_2 v165
  let v167 : FVec F S512x512x4096 .f32 := Host.divf v134 v166
  let v168 : FVec F S4096x1 .f32 := (extractStridedSlice S4096x1 ![0, 0] · slices_S4096x3_S4096x1_0_0) arg1
  let v169 : FVec F S4096 .f32 := shapeCast S4096 v168 shapeCasts_S4096x1_S4096
  let v170 : FVec F S1x1x4096 .f32 := broadcastInDim S1x1x4096 ![2] bcast_S4096_S1x1x4096_2 v169
  let v171 : FVec F S512x512x4096 .f32 := broadcastInDim S512x512x4096 ![0, 1, 2] bcast_S1x1x4096_S512x512x4096_0_1_2 v170
  fn_in_general_position_part8 (F := F) arg1 v34 v96 v115 v134 v158 v161 v164 v167 v171

def fn_in_general_position_part6 {F : FTy → Type} [FloatOps F] (arg1 : FVec F S4096x3 .f32) (v34 : IVec S4096 1) (v73 : FVec F S4096 .f32) (v77 : FVec F S4096 .f32) (v96 : FVec F S512x512x4096 .f32) (v115 : FVec F S512x512x4096 .f32) (v117 : FVec F S4096 .f32) (v121 : FVec F S1x512x4096 .f32) (v125 : FVec F S512x1x4096 .f32) (v127 : FVec F S512x1x4096 .f32) : IVec S512x512x4096 1 :=
  let v128 : FVec F S512x1x4096 .f32 := mulf v127 v125
  let v129 : FVec F S1x1x4096 .f32 := broadcastInDim S1x1x4096 ![2] bcast_S4096_S1x1x4096_2 v117
  let v130 : FVec F S1x512x4096 .f32 := broadcastInDim S1x512x4096 ![0, 1, 2] bcast_S1x1x4096_S1x512x4096_0_1_2 v129
  let v131 : FVec F S1x512x4096 .f32 := mulf v130 v121
  let v132 : FVec F S512x512x4096 .f32 := broadcastInDim S512x512x4096 ![0, 1, 2] bcast_S512x1x4096_S512x512x4096_0_1_2 v128
  let v133 : FVec F S512x512x4096 .f32 := broadcastInDim S512x512x4096 ![0, 1, 2] bcast_S1x512x4096_S512x512x4096_0_1_2 v131
  let v134 : FVec F S512x512x4096 .f32 := subf v132 v133
  let v135 : FVec F S4096 .f32 := Host.sign v73
  let v136 : FVec F S1x1x4096 .f32 := broadcastInDim S1x1x4096 ![2] bcast_S4096_S1x1x4096_2 v135
  let v137 : FVec F S512x512x4096 .f32 := broadcastInDim S512x512x4096 ![0, 1, 2] bcast_S1x1x4096_S512x512x4096_0_1_2 v136
  let v138 : FVec F S512x512x4096 .f32 := mulf v96 v137
  let cst_15 : FVec F S_ .f32 := constant S_ .f32 0x00000000#32
  let v139 : FVec F S512x512x4096 .f32 := broadcastInDim S512x512x4096 ![] bcast_S_S512x512x4096 cst_15
  let v140 : IVec S512x512x4096 1 := cmpf .oge v138 v139
  let v141 : FVec F S1x1x4096 .f32 := broadcastInDim S1x1x4096 ![2] bcast_S4096_S1x1x4096_2 v135
  let v142 : FVec F S512x512x4096 .f32 := broadcastInDim S512x512x4096 ![0, 1, 2] bcast_S1x1x4096_S512x512x4096_0_1_2 v141
  let v143 : FVec F S512x512x4096 .f32 := mulf v115 v142
  let cst_16 : FVec F S_ .f32 := constant S_ .f32 0x00000000#32
  let v144 : FVec F S512x512x4096 .f32 := broadcastInDim S512x512x4096 ![] bcast_S_S512x512x4096 cst_16
  let v145 : IVec S512x512x4096 1 := cmpf .oge v143 v144
  let v146 : IVec S512x512x4096 1 := andi v140 v145
  let v147 : FVec F S1x1x4096 .f32 := broadcastInDim S1x1x4096 ![2] bcast_S4096_S1x1x4096_2 v135
  let v148 : FVec F S512x512x4096 .f32 := broadcastInDim S512x512x4096 ![0, 1, 2] bcast_S1x1x4096_S512x512x4096_0_1_2 v147
  let v149 : FVec F S512x512x4096 .f32 := mulf v134 v148
  fn_in_general_position_part7 (F := F) arg1 v34 v73 v77 v96 v115 v134 v146 v149

def fn_in_general_position_part5 {F : FTy → Type} [FloatOps F] (arg1 : FVec F S4096x3 .f32) (v34 : IVec S4096 1) (v53 : FVec F S1x512x1 .f32) (v54 : FVec F S512x1x1 .f32) (v56 : FVec F S4096 .f32) (v58 : FVec F S4096 .f32) (v60 : FVec F S4096 .f32) (v62 : FVec F S4096 .f32) (v73 : FVec F S4096 .f32) (v77 : FVec F S4096 .f32) (v96 : FVec F S512x512x4096 .f32) (v97 : FVec F S4096 .f32) (v98 : FVec F S4096 .f32) (v102 : FVec F S1x512x4096 .f32) (v103 : FVec F S1x1x4096 .f32) : IVec S512x512x4096 1 :=
  let v104 : FVec F S512x1x4096 .f32 := broadcastInDim S512x1x4096 ![0, 1, 2] bcast_S512x1x1_S512x1x4096_0_1_2 v54
  let v105 : FVec F S512x1x4096 .f32 := broadcastInDim S512x1x4096 ![0, 1, 2] bcast_S1x1x4096_S512x1x4096_0_1_2 v103
  let v106 : FVec F S512x1x4096 .f32 := subf v104 v105
  let v107 : FVec F S1x1x4096 .f32 := broadcastInDim S1x1x4096 ![2] bcast_S4096_S1x1x4096_2 v97
  let v108 : FVec F S512x1x4096 .f32 := broadcastInDim S512x1x4096 ![0, 1, 2] bcast_S1x1x4096_S512x1x4096_0_1_2 v107
  let v109 : FVec F S512x1x4096 .f32 := mulf v108 v106
  let v110 : FVec F S1x1x4096 .f32 := broadcastInDim S1x1x4096 ![2] bcast_S4096_S1x1x4096_2 v98
  let v111 : FVec F S1x512x4096 .f32 := broadcastInDim S1x512x4096 ![0, 1, 2] bcast_S1x1x4096_S1x512x4096_0_1_2 v110
  let v112 : FVec F S1x512x4096 .f32 := mulf v111 v102
  let v113 : FVec F S512x512x4096 .f32 := broadcastInDim S512x512x4096 ![0, 1, 2] bcast_S512x1x4096_S512x512x4096_0_1_2 v109
  let v114 : FVec F S512x512x4096 .f32 := broadcastInDim S512x512x4096 ![0, 1, 2] bcast_S1x512x4096_S512x512x4096_0_1_2 v112
  let v115 : FVec F S512x512x4096 .f32 := subf v113 v114
  let v116 : FVec F S4096 .f32 := subf v60 v56
  let v117 : FVec F S4096 .f32 := subf v62 v58
  let v118 : FVec F S1x1x4096 .f32 := broadcastInDim S1x1x4096 ![2] bcast_S4096_S1x1x4096_2 v56
  let v119 : FVec F S1x512x4096 .f32 := broadcastInDim S1x512x4096 ![0, 1, 2] bcast_S1x512x1_S1x512x4096_0_1_2 v53
  let v120 : FVec F S1x512x4096 .f32 := broadcastInDim S1x512x4096 ![0, 1, 2] bcast_S1x1x4096_S1x512x4096_0_1_2 v118
  let v121 : FVec F S1x512x4096 .f32 := subf v119 v120
  let v122 : FVec F S1x1x4096 .f32 := broadcastInDim S1x1x4096 ![2] bcast_S4096_S1x1x4096_2 v58
  let v123 : FVec F S512x1x4096 .f32 := broadcastInDim S512x1x4096 ![0, 1, 2] bcast_S512x1x1_S512x1x4096_0_1_2 v54
  let v124 : FVec F S512x1x4096 .f32 := broadcastInDim S512x1x4096 ![0, 1, 2] bcast_S1x1x4096_S512x1x4096_0_1_2 v122
  let v125 : FVec F S512x1x4096 .f32 := subf v123 v124
  let v126 : FVec F S1x1x4096 .f32 := broadcastInDim S1x1x4096 ![2] bcast_S4096_S1x1x4096_2 v116
  let v127 : FVec F S512x1x4096 .f32 := broadcastInDim S512x1x4096 ![0, 1, 2] bcast_S1x1x4096_S512x1x4096_0_1_2 v126
  fn_in_general_position_part6 (F := F) arg1 v34 v73 v77 v96 v115 v117 v121 v125 v127

def fn_in_general_position_part4 {F : FTy → Type} [FloatOps F] (arg1 : FVec F S4096x3 .f32) (v34 : IVec S4096 1) (v53 : FVec F S1x512x1 .f32) (v54 : FVec F S512x1x1 .f32) (v56 : FVec F S4096 .f32) (v58 : FVec F S4096 .f32) (v60 : FVec F S4096 .f32) (v62 : FVec F S4096 .f32) (v64 : FVec F S4096 .f32) (v66 : FVec F S4096 .f32) (v73 : FVec F S4096 .f32) (v77 : FVec F S4096 .f32) (v78 : FVec F S4096 .f32) (v79 : FVec F S4096 .f32) : IVec S512x512x4096 1 :=
  let v80 : FVec F S1x1x4096 .f32 := broadcastInDim S1x1x4096 ![2] bcast_S4096_S1x1x4096_2 v60
  let v81 : FVec F S1x512x4096 .f32 := broadcastInDim S1x512x4096 ![0, 1, 2] bcast_S1x512x1_S1x512x4096_0_1_2 v53
  let v82 : FVec F S1x512x4096 .f32 := broadcastInDim S1x512x4096 ![0, 1, 2] bcast_S1x1x4096_S1x512x4096_0_1_2 v80
  let v83 : FVec F S1x512x4096 .f32 := subf v81 v82
  let v84 : FVec F S1x1x4096 .f32 := broadcastInDim S1x1x4096 ![2] bcast_S4096_S1x1x4096_2 v62
  let v85 : FVec F S512x1x4096 .f32 := broadcastInDim S512x1x4096 ![0, 1, 2] bcast_S512x1x1_S512x1x4096_0_1_2 v54
  let v86 : FVec F S512x1x4096 .f32 := broadcastInDim S512x1x4096 ![0, 1, 2] bcast_S1x1x4096_S512x1x4096_0_1_2 v84
  let v87 : FVec F S512x1x4096 .f32 := subf v85 v86
  let v88 : FVec F S1x1x4096 .f32 := broadcastInDim S1x1x4096 ![2] bcast_S4096_S1x1x4096_2 v78
  let v89 : FVec F S512x1x4096 .f32 := broadcastInDim S512x1x4096 ![0, 1, 2] bcast_S1x1x4096_S512x1x4096_0_1_2 v88
  let v90 : FVec F S512x1x4096 .f32 := mulf v89 v87
  let v91 : FVec F S1x1x4096 .f32 := broadcastInDim S1x1x4096 ![2] bcast_S4096_S1x1x4096_2 v79
  let v92 : FVec F S1x512x4096 .f32 := broadcastInDim S1x512x4096 ![0, 1, 2] bcast_S1x1x4096_S1x512x4096_0_1_2 v91
  let v93 : FVec F S1x512x4096 .f32 := mulf v92 v83
  let v94 : FVec F S512x512x4096 .f32 := broadcastInDim S512x512x4096 ![0, 1, 2] bcast_S512x1x4096_S512x512x4096_0_1_2 v90
  let v95 : FVec F S512x512x4096 .f32 := broadcastInDim S512x512x4096 ![0, 1, 2] bcast_S1x512x4096_S512x512x4096_0_1_2 v93
  let v96 : FVec F S512x512x4096 .f32 := subf v94 v95
  let v97 : FVec F S4096 .f32 := subf v56 v64
  let v98 : FVec F S4096 .f32 := subf v58 v66
  let v99 : FVec F S1x1x4096 .f32 := broadcastInDim S1x1x4096 ![2] bcast_S4096_S1x1x4096_2 v64
  let v100 : FVec F S1x512x4096 .f32 := broadcastInDim S1x512x4096 ![0, 1, 2] bcast_S1x512x1_S1x512x4096_0_1_2 v53
  let v101 : FVec F S1x512x4096 .f32 := broadcastInDim S1x512x4096 ![0, 1, 2] bcast_S1x1x4096_S1x512x4096_0_1_2 v99
  let v102 : FVec F S1x512x4096 .f32 := subf v100 v101
  let v103 : FVec F S1x1x4096 .f32 := broadcastInDim S1x1x4096 ![2] bcast_S4096_S1x1x4096_2 v66
  fn_in_general_position_part5 (F := F) arg1 v34 v53 v54 v56 v58 v60 v62 v73 v77 v96 v97 v98 v102 v103

def fn_in_general_position_part3 {F : FTy → Type} [FloatOps F] (arg0 : FVec F S4096x3x2 .f32) (arg1 : FVec F S4096x3 .f32) (v34 : IVec S4096 1) (v53 : FVec F S1x512x1 .f32) (v54 : FVec F S512x1x1 .f32) (v56 : FVec F S4096 .f32) (v57 : FVec F S4096x1x1 .f32) : IVec S512x512x4096 1 :=
  let v58 : FVec F S4096 .f32 := shapeCast S4096 v57 shapeCasts_S4096x1x1_S4096
  let v59 : FVec F S4096x1x1 .f32 := (extractStridedSlice S4096x1x1 ![0, 1, 0] · slices_S4096x3x2_S4096x1x1_0_1_0) arg0
  let v60 : FVec F S4096 .f32 := shapeCast S4096 v59 shapeCasts_S4096x1x1_S4096
  let v61 : FVec F S4096x1x1 .f32 := (extractStridedSlice S4096x1x1 ![0, 1, 1] · slices_S4096x3x2_S4096x1x1_0_1_1) arg0
  let v62 : FVec F S4096 .f32 := shapeCast S4096 v61 shapeCasts_S4096x1x1_S4096
  let v63 : FVec F S4096x1x1 .f32 := (extractStridedSlice S4096x1x1 ![0, 2, 0] · slices_S4096x3x2_S4096x1x1_0_2_0) arg0
  let v64 : FVec F S4096 .f32 := shapeCast S4096 v63 shapeCasts_S4096x1x1_S4096
  let v65 : FVec F S4096x1x1 .f32 := (extractStridedSlice S4096x1x1 ![0, 2, 1] · slices_S4096x3x2_S4096x1x1_0_2_1) arg0
  let v66 : FVec F S4096 .f32 := shapeCast S4096 v65 shapeCasts_S4096x1x1_S4096
  let v67 : FVec F S4096 .f32 := subf v60 v56
  let v68 : FVec F S4096 .f32 := subf v62 v58
  let v69 : FVec F S4096 .f32 := subf v64 v56
  let v70 : FVec F S4096 .f32 := subf v66 v58
  let v71 : FVec F S4096 .f32 := mulf v67 v70
  let v72 : FVec F S4096 .f32 := mulf v68 v69
  let v73 : FVec F S4096 .f32 := subf v71 v72
  let v74 : FVec F S4096 .f32 := Host.absf v73
  let cst_13 : FVec F S_ .f32 := constant S_ .f32 0x322BCC77#32
  let v75 : FVec F S4096 .f32 := broadcastInDim S4096 ![] bcast_S_S4096 cst_13
  let v76 : IVec S4096 1 := cmpf .ogt v74 v75
  let cst_14 : FVec F S_ .f32 := constant S_ .f32 0x3F800000#32
  let v77 : FVec F S4096 .f32 := fn_where (F := F) v76 v73 cst_14
  let v78 : FVec F S4096 .f32 := subf v64 v60
  let v79 : FVec F S4096 .f32 := subf v66 v62
  fn_in_general_position_part4 (F := F) arg1 v34 v53 v54 v56 v58 v60 v62 v64 v66 v73 v77 v78 v79

def fn_in_general_position_part2 {F : FTy → Type} [FloatOps F] (arg0 : FVec F S4096x3x2 .f32) (arg1 : FVec F S4096x3 .f32) (v34 : IVec S4096 1) (v39 : FVec F S512 .f32) : IVec S512x512x4096 1 :=
  let cst_7 : FVec F S_ .f32 := constant S_ .f32 0x44000000#32
  let v40 : FVec F S512 .f32 := broadcastInDim S512 ![] bcast_S_S512 cst_7
  let v41 : FVec F S512 .f32 := Host.divf v39 v40
  let cst_8 : FVec F S_ .f32 := constant S_ .f32 0x3F800000#32
  let v42 : FVec F S512 .f32 := broadcastInDim S512 ![] bcast_S_S512 cst_8
  let v43 : FVec F S512 .f32 := subf v41 v42
  let v44 : FVec F S512 .f32 := sitofp .f32 (iotaInDim S512 32 0)
  let cst_9 : FVec F S_ .f32 := constant S_ .f32 0x3F000000#32
  let v45 : FVec F S512 .f32 := broadcastInDim S512 ![] bcast_S_S512 cst_9
  let v46 : FVec F S512 .f32 := addf v44 v45
  let cst_10 : FVec F S_ .f32 := constant S_ .f32 0x40000000#32
  let v47 : FVec F S512 .f32 := broadcastInDim S512 ![] bcast_S_S512 cst_10
  let v48 : FVec F S512 .f32 := mulf v46 v47
  let cst_11 : FVec F S_ .f32 := constant S_ .f32 0x44000000#32
  let v49 : FVec F S512 .f32 := broadcastInDim S512 ![] bcast_S_S512 cst_11
  let v50 : FVec F S512 .f32 := Host.divf v48 v49
  let cst_12 : FVec F S_ .f32 := constant S_ .f32 0x3F800000#32
  let v51 : FVec F S512 .f32 := broadcastInDim S512 ![] bcast_S_S512 cst_12
  let v52 : FVec F S512 .f32 := subf v51 v50
  let v53 : FVec F S1x512x1 .f32 := broadcastInDim S1x512x1 ![1] bcast_S512_S1x512x1_1 v43
  let v54 : FVec F S512x1x1 .f32 := broadcastInDim S512x1x1 ![0] bcast_S512_S512x1x1_0 v52
  let v55 : FVec F S4096x1x1 .f32 := (extractStridedSlice S4096x1x1 ![0, 0, 0] · slices_S4096x3x2_S4096x1x1_0_0_0) arg0
  let v56 : FVec F S4096 .f32 := shapeCast S4096 v55 shapeCasts_S4096x1x1_S4096
  let v57 : FVec F S4096x1x1 .f32 := (extractStridedSlice S4096x1x1 ![0, 0, 1] · slices_S4096x3x2_S4096x1x1_0_0_1) arg0
  fn_in_general_position_part3 (F := F) arg0 arg1 v34 v53 v54 v56 v57

def fn_in_general_position_part1 {F : FTy → Type} [FloatOps F] (arg0 : FVec F S4096x3x2 .f32) (arg1 : FVec F S4096x3 .f32) (v7 : FVec F S4096 .f32) (v9 : FVec F S4096 .f32) (v11 : FVec F S4096 .f32) (v18 : IVec S4096 1) (v19 : FVec F S4096 .f32) (v20 : FVec F S4096 .f32) : IVec S512x512x4096 1 :=
  let v21 : IVec S4096 1 := cmpf .olt v19 v20
  let v22 : IVec S4096 1 := andi v18 v21
  let v23 : FVec F S4096 .f32 := Host.absf v7
  let cst_2 : FVec F S_ .f32 := constant S_ .f32 0x7F800000#32
  let v24 : FVec F S4096 .f32 := broadcastInDim S4096 ![] bcast_S_S4096 cst_2
  let v25 : IVec S4096 1 := cmpf .olt v23 v24
  let v26 : IVec S4096 1 := andi v22 v25
  let v27 : FVec F S4096 .f32 := Host.absf v9
  let cst_3 : FVec F S_ .f32 := constant S_ .f32 0x7F800000#32
  let v28 : FVec F S4096 .f32 := broadcastInDim S4096 ![] bcast_S_S4096 cst_3
  let v29 : IVec S4096 1 := cmpf .olt v27 v28
  let v30 : IVec S4096 1 := andi v26 v29
  let v31 : FVec F S4096 .f32 := Host.absf v11
  let cst_4 : FVec F S_ .f32 := constant S_ .f32 0x7F800000#32
  let v32 : FVec F S4096 .f32 := broadcastInDim S4096 ![] bcast_S_S4096 cst_4
  let v33 : IVec S4096 1 := cmpf .olt v31 v32
  let v34 : IVec S4096 1 := andi v30 v33
  let v35 : FVec F S512 .f32 := sitofp .f32 (iotaInDim S512 32 0)
  let cst_5 : FVec F S_ .f32 := constant S_ .f32 0x3F000000#32
  let v36 : FVec F S512 .f32 := broadcastInDim S512 ![] bcast_S_S512 cst_5
  let v37 : FVec F S512 .f32 := addf v35 v36
  let cst_6 : FVec F S_ .f32 := constant S_ .f32 0x40000000#32
  let v38 : FVec F S512 .f32 := broadcastInDim S512 ![] bcast_S_S512 cst_6
  let v39 : FVec F S512 .f32 := mulf v37 v38
  fn_in_general_position_part2 (F := F) arg0 arg1 v34 v39

def fn_in_general_position {F : FTy → Type} [FloatOps F] (arg0 : FVec F S4096x3x2 .f32) (arg1 : FVec F S4096x3 .f32) : IVec S512x512x4096 1 :=
  let v0 : FVec F S4096x1x1 .f32 := (extractStridedSlice S4096x1x1 ![0, 0, 0] · slices_S4096x3x2_S4096x1x1_0_0_0) arg0
  let v1 : FVec F S4096 .f32 := shapeCast S4096 v0 shapeCasts_S4096x1x1_S4096
  let v2 : FVec F S4096x1x1 .f32 := (extractStridedSlice S4096x1x1 ![0, 0, 1] · slices_S4096x3x2_S4096x1x1_0_0_1) arg0
  let v3 : FVec F S4096 .f32 := shapeCast S4096 v2 shapeCasts_S4096x1x1_S4096
  let v4 : FVec F S4096x1x1 .f32 := (extractStridedSlice S4096x1x1 ![0, 1, 0] · slices_S4096x3x2_S4096x1x1_0_1_0) arg0
  let v5 : FVec F S4096 .f32 := shapeCast S4096 v4 shapeCasts_S4096x1x1_S4096
  let v6 : FVec F S4096x1x1 .f32 := (extractStridedSlice S4096x1x1 ![0, 1, 1] · slices_S4096x3x2_S4096x1x1_0_1_1) arg0
  let v7 : FVec F S4096 .f32 := shapeCast S4096 v6 shapeCasts_S4096x1x1_S4096
  let v8 : FVec F S4096x1x1 .f32 := (extractStridedSlice S4096x1x1 ![0, 2, 0] · slices_S4096x3x2_S4096x1x1_0_2_0) arg0
  let v9 : FVec F S4096 .f32 := shapeCast S4096 v8 shapeCasts_S4096x1x1_S4096
  let v10 : FVec F S4096x1x1 .f32 := (extractStridedSlice S4096x1x1 ![0, 2, 1] · slices_S4096x3x2_S4096x1x1_0_2_1) arg0
  let v11 : FVec F S4096 .f32 := shapeCast S4096 v10 shapeCasts_S4096x1x1_S4096
  let v12 : FVec F S4096 .f32 := Host.absf v1
  let cst : FVec F S_ .f32 := constant S_ .f32 0x7F800000#32
  let v13 : FVec F S4096 .f32 := broadcastInDim S4096 ![] bcast_S_S4096 cst
  let v14 : IVec S4096 1 := cmpf .olt v12 v13
  let v15 : FVec F S4096 .f32 := Host.absf v3
  let cst_0 : FVec F S_ .f32 := constant S_ .f32 0x7F800000#32
  let v16 : FVec F S4096 .f32 := broadcastInDim S4096 ![] bcast_S_S4096 cst_0
  let v17 : IVec S4096 1 := cmpf .olt v15 v16
  let v18 : IVec S4096 1 := andi v14 v17
  let v19 : FVec F S4096 .f32 := Host.absf v5
  let cst_1 : FVec F S_ .f32 := constant S_ .f32 0x7F800000#32
  let v20 : FVec F S4096 .f32 := broadcastInDim S4096 ![] bcast_S_S4096 cst_1
  fn_in_general_position_part1 (F := F) arg0 arg1 v7 v9 v11 v18 v19 v20

def fn_part5 {F : FTy → Type} [FloatOps F] (main_arg1 : IVec S1x4096x3 32) (main_v98 : FVec F S2048 .f32) (main_v106 : FVec F S2048x2 .f32) (main_v112 : IVec S4096x3 32) : IVec S512x512x4096 1 :=
  let main_v113 : IVec S4096x3x1 32 := broadcastInDim S4096x3x1 ![0, 1] bcast_S4096x3_S4096x3x1_0_1 main_v112
  let main_v114 : FVec F S4096x3x2 .f32 := (fun x i => Host.gather gather_S2048x2_S4096x3x1_S4096x3x2_2_0_n_n_0_2_12 x i) main_v106 main_v113
  let main_v115 : IVec S4096x3 32 := shapeCast S4096x3 main_arg1 shapeCasts_S1x4096x3_S4096x3
  let main_c_5 : IVec S_ 32 := constantI S_ 32 0#32
  let main_v116 : IVec S4096x3 32 := broadcastInDim S4096x3 ![] bcast_S_S4096x3 main_c_5
  let main_v117 : IVec S4096x3 1 := cmpi .slt main_v115 main_v116
  let main_c_6 : IVec S_ 32 := constantI S_ 32 2048#32
  let main_v118 : IVec S4096x3 32 := broadcastInDim S4096x3 ![] bcast_S_S4096x3 main_c_6
  let main_v119 : IVec S4096x3 32 := addi main_v115 main_v118
  let main_v120 : IVec S4096x3 32 := select main_v117 main_v119 main_v115
  let main_v121 : IVec S4096x3x1 32 := broadcastInDim S4096x3x1 ![0, 1] bcast_S4096x3_S4096x3x1_0_1 main_v120
  let main_v122 : FVec F S4096x3 .f32 := (fun x i => Host.gather gather_S2048_S4096x3x1_S4096x3_n_0_n_n_0_2_1 x i) main_v98 main_v121
  let main_v123 : IVec S512x512x4096 1 := fn_in_general_position (F := F) main_v114 main_v122
  main_v123

def fn_part4 {F : FTy → Type} [FloatOps F] (main_arg1 : IVec S1x4096x3 32) (main_v90 : FVec F S3x3 .f32) (main_v91 : FVec F S2048x3 .f32) (main_v92 : FVec F S1x3 .f32) : IVec S512x512x4096 1 :=
  let main_v93 : FVec F S2048x3 .f32 := broadcastInDim S2048x3 ![0, 1] bcast_S1x3_S2048x3_0_1 main_v92
  let main_v94 : FVec F S2048x3 .f32 := subf main_v91 main_v93
  let main_v95 : FVec F S3x3 .f32 := (transpose S3x3 [1, 0] · transposes_S3x3_S3x3_1_0) main_v90
  let main_v96 : FVec F S2048x3 .f32 := (fun l r => Host.dotGeneral dot_S2048x3_S3x3_S2048x3_1_0_0_1_n_n none l r) main_v94 main_v95
  let main_v97 : FVec F S2048x1 .f32 := (extractStridedSlice S2048x1 ![0, 2] · slices_S2048x3_S2048x1_0_2) main_v96
  let main_v98 : FVec F S2048 .f32 := shapeCast S2048 main_v97 shapeCasts_S2048x1_S2048
  let main_v99 : FVec F S2048x2 .f32 := (extractStridedSlice S2048x2 ![0, 0] · slices_S2048x3_S2048x2_0_0) main_v96
  let main_v100 : FVec F S2048x1 .f32 := broadcastInDim S2048x1 ![0] bcast_S2048_S2048x1_0 main_v98
  let main_cst_2 : FVec F S_ .f32 := constant S_ .f32 0x3F13CD3A#32
  let main_v101 : FVec F S2048x1 .f32 := broadcastInDim S2048x1 ![] bcast_S_S2048x1 main_cst_2
  let main_v102 : FVec F S2048x1 .f32 := mulf main_v100 main_v101
  let main_cst_3 : FVec F S_ .f32 := constant S_ .f32 0x2B8CBCCC#32
  let main_v103 : FVec F S2048x1 .f32 := broadcastInDim S2048x1 ![] bcast_S_S2048x1 main_cst_3
  let main_v104 : FVec F S2048x1 .f32 := addf main_v102 main_v103
  let main_v105 : FVec F S2048x2 .f32 := broadcastInDim S2048x2 ![0, 1] bcast_S2048x1_S2048x2_0_1 main_v104
  let main_v106 : FVec F S2048x2 .f32 := Host.divf main_v99 main_v105
  let main_v107 : IVec S4096x3 32 := shapeCast S4096x3 main_arg1 shapeCasts_S1x4096x3_S4096x3
  let main_c : IVec S_ 32 := constantI S_ 32 0#32
  let main_v108 : IVec S4096x3 32 := broadcastInDim S4096x3 ![] bcast_S_S4096x3 main_c
  let main_v109 : IVec S4096x3 1 := cmpi .slt main_v107 main_v108
  let main_c_4 : IVec S_ 32 := constantI S_ 32 2048#32
  let main_v110 : IVec S4096x3 32 := broadcastInDim S4096x3 ![] bcast_S_S4096x3 main_c_4
  let main_v111 : IVec S4096x3 32 := addi main_v107 main_v110
  let main_v112 : IVec S4096x3 32 := select main_v109 main_v111 main_v107
  fn_part5 (F := F) main_arg1 main_v98 main_v106 main_v112

def fn_part3 {F : FTy → Type} [FloatOps F] (main_arg0 : FVec F S1x2048x3 .f32) (main_arg1 : IVec S1x4096x3 32) (main_arg3 : FVec F S3 .f32) (main_v4 : FVec F S3 .f32) (main_v49 : FVec F S3 .f32) (main_v60 : FVec F S_ .f32) (main_v65 : FVec F S_ .f32) (main_v67 : FVec F S_ .f32) (main_v68 : FVec F S1 .f32) : IVec S512x512x4096 1 :=
  let main_v69 : FVec F S_ .f32 := shapeCast S_ main_v68 shapeCasts_S1_S_
  let main_v70 : FVec F S_ .f32 := mulf main_v67 main_v69
  let main_v71 : FVec F S_ .f32 := subf main_v65 main_v70
  let main_v72 : FVec F S1 .f32 := (extractStridedSlice S1 ![0] · slices_S3_S1_0) main_v4
  let main_v73 : FVec F S_ .f32 := shapeCast S_ main_v72 shapeCasts_S1_S_
  let main_v74 : FVec F S1 .f32 := (extractStridedSlice S1 ![1] · slices_S3_S1_1) main_v49
  let main_v75 : FVec F S_ .f32 := shapeCast S_ main_v74 shapeCasts_S1_S_
  let main_v76 : FVec F S_ .f32 := mulf main_v73 main_v75
  let main_v77 : FVec F S1 .f32 := (extractStridedSlice S1 ![1] · slices_S3_S1_1) main_v4
  let main_v78 : FVec F S_ .f32 := shapeCast S_ main_v77 shapeCasts_S1_S_
  let main_v79 : FVec F S1 .f32 := (extractStridedSlice S1 ![0] · slices_S3_S1_0) main_v49
  let main_v80 : FVec F S_ .f32 := shapeCast S_ main_v79 shapeCasts_S1_S_
  let main_v81 : FVec F S_ .f32 := mulf main_v78 main_v80
  let main_v82 : FVec F S_ .f32 := subf main_v76 main_v81
  let main_v83 : FVec F S1 .f32 := broadcastInDim S1 ![] bcast_S_S1 main_v60
  let main_v84 : FVec F S1 .f32 := broadcastInDim S1 ![] bcast_S_S1 main_v71
  let main_v85 : FVec F S1 .f32 := broadcastInDim S1 ![] bcast_S_S1 main_v82
  let main_v86 : FVec F S3 .f32 := concatenate S3 0 [⟨S1, main_v83⟩, ⟨S1, main_v84⟩, ⟨S1, main_v85⟩] concatenates_S1_S1_S1_S3_d0
  let main_v87 : FVec F S1x3 .f32 := broadcastInDim S1x3 ![1] bcast_S3_S1x3_1 main_v49
  let main_v88 : FVec F S1x3 .f32 := broadcastInDim S1x3 ![1] bcast_S3_S1x3_1 main_v86
  let main_v89 : FVec F S1x3 .f32 := broadcastInDim S1x3 ![1] bcast_S3_S1x3_1 main_v4
  let main_v90 : FVec F S3x3 .f32 := concatenate S3x3 0 [⟨S1x3, main_v87⟩, ⟨S1x3, main_v88⟩, ⟨S1x3, main_v89⟩] concatenates_S1x3_S1x3_S1x3_S3x3_d0
  let main_v91 : FVec F S2048x3 .f32 := shapeCast S2048x3 main_arg0 shapeCasts_S1x2048x3_S2048x3
  let main_v92 : FVec F S1x3 .f32 := broadcastInDim S1x3 ![1] bcast_S3_S1x3_1 main_arg3
  fn_part4 (F := F) main_arg1 main_v90 main_v91 main_v92

def fn_part2 {F : FTy → Type} [FloatOps F] (main_arg0 : FVec F S1x2048x3 .f32) (main_arg1 : IVec S1x4096x3 32) (main_arg3 : FVec F S3 .f32) (main_v4 : FVec F S3 .f32) (main_v45 : FVec F S3 .f32) : IVec S512x512x4096 1 :=
  let main_v46 : FVec F S_ .f32 := fn_norm (F := F) main_v45
  let main_cst_1 : FVec F S_ .f32 := constant S_ .f32 0x2B8CBCCC#32
  let main_v47 : FVec F S_ .f32 := addf main_v46 main_cst_1
  let main_v48 : FVec F S3 .f32 := broadcastInDim S3 ![] bcast_S_S3 main_v47
  let main_v49 : FVec F S3 .f32 := Host.divf main_v45 main_v48
  let main_v50 : FVec F S1 .f32 := (extractStridedSlice S1 ![1] · slices_S3_S1_1) main_v4
  let main_v51 : FVec F S_ .f32 := shapeCast S_ main_v50 shapeCasts_S1_S_
  let main_v52 : FVec F S1 .f32 := (extractStridedSlice S1 ![2] · slices_S3_S1_2) main_v49
  let main_v53 : FVec F S_ .f32 := shapeCast S_ main_v52 shapeCasts_S1_S_
  let main_v54 : FVec F S_ .f32 := mulf main_v51 main_v53
  let main_v55 : FVec F S1 .f32 := (extractStridedSlice S1 ![2] · slices_S3_S1_2) main_v4
  let main_v56 : FVec F S_ .f32 := shapeCast S_ main_v55 shapeCasts_S1_S_
  let main_v57 : FVec F S1 .f32 := (extractStridedSlice S1 ![1] · slices_S3_S1_1) main_v49
  let main_v58 : FVec F S_ .f32 := shapeCast S_ main_v57 shapeCasts_S1_S_
  let main_v59 : FVec F S_ .f32 := mulf main_v56 main_v58
  let main_v60 : FVec F S_ .f32 := subf main_v54 main_v59
  let main_v61 : FVec F S1 .f32 := (extractStridedSlice S1 ![2] · slices_S3_S1_2) main_v4
  let main_v62 : FVec F S_ .f32 := shapeCast S_ main_v61 shapeCasts_S1_S_
  let main_v63 : FVec F S1 .f32 := (extractStridedSlice S1 ![0] · slices_S3_S1_0) main_v49
  let main_v64 : FVec F S_ .f32 := shapeCast S_ main_v63 shapeCasts_S1_S_
  let main_v65 : FVec F S_ .f32 := mulf main_v62 main_v64
  let main_v66 : FVec F S1 .f32 := (extractStridedSlice S1 ![0] · slices_S3_S1_0) main_v4
  let main_v67 : FVec F S_ .f32 := shapeCast S_ main_v66 shapeCasts_S1_S_
  let main_v68 : FVec F S1 .f32 := (extractStridedSlice S1 ![2] · slices_S3_S1_2) main_v49
  fn_part3 (F := F) main_arg0 main_arg1 main_arg3 main_v4 main_v49 main_v60 main_v65 main_v67 main_v68

def fn_part1 {F : FTy → Type} [FloatOps F] (main_arg0 : FVec F S1x2048x3 .f32) (main_arg1 : IVec S1x4096x3 32) (main_arg3 : FVec F S3 .f32) (main_v4 : FVec F S3 .f32) (main_v8 : FVec F S3 .f32) (main_v19 : FVec F S_ .f32) (main_v21 : FVec F S_ .f32) : IVec S512x512x4096 1 :=
  let main_v22 : FVec F S1 .f32 := (extractStridedSlice S1 ![0] · slices_S3_S1_0) main_v4
  let main_v23 : FVec F S_ .f32 := shapeCast S_ main_v22 shapeCasts_S1_S_
  let main_v24 : FVec F S_ .f32 := mulf main_v21 main_v23
  let main_v25 : FVec F S1 .f32 := (extractStridedSlice S1 ![0] · slices_S3_S1_0) main_v8
  let main_v26 : FVec F S_ .f32 := shapeCast S_ main_v25 shapeCasts_S1_S_
  let main_v27 : FVec F S1 .f32 := (extractStridedSlice S1 ![2] · slices_S3_S1_2) main_v4
  let main_v28 : FVec F S_ .f32 := shapeCast S_ main_v27 shapeCasts_S1_S_
  let main_v29 : FVec F S_ .f32 := mulf main_v26 main_v28
  let main_v30 : FVec F S_ .f32 := subf main_v24 main_v29
  let main_v31 : FVec F S1 .f32 := (extractStridedSlice S1 ![0] · slices_S3_S1_0) main_v8
  let main_v32 : FVec F S_ .f32 := shapeCast S_ main_v31 shapeCasts_S1_S_
  let main_v33 : FVec F S1 .f32 := (extractStridedSlice S1 ![1] · slices_S3_S1_1) main_v4
  let main_v34 : FVec F S_ .f32 := shapeCast S_ main_v33 shapeCasts_S1_S_
  let main_v35 : FVec F S_ .f32 := mulf main_v32 main_v34
  let main_v36 : FVec F S1 .f32 := (extractStridedSlice S1 ![1] · slices_S3_S1_1) main_v8
  let main_v37 : FVec F S_ .f32 := shapeCast S_ main_v36 shapeCasts_S1_S_
  let main_v38 : FVec F S1 .f32 := (extractStridedSlice S1 ![0] · slices_S3_S1_0) main_v4
  let main_v39 : FVec F S_ .f32 := shapeCast S_ main_v38 shapeCasts_S1_S_
  let main_v40 : FVec F S_ .f32 := mulf main_v37 main_v39
  let main_v41 : FVec F S_ .f32 := subf main_v35 main_v40
  let main_v42 : FVec F S1 .f32 := broadcastInDim S1 ![] bcast_S_S1 main_v19
  let main_v43 : FVec F S1 .f32 := broadcastInDim S1 ![] bcast_S_S1 main_v30
  let main_v44 : FVec F S1 .f32 := broadcastInDim S1 ![] bcast_S_S1 main_v41
  let main_v45 : FVec F S3 .f32 := concatenate S3 0 [⟨S1, main_v42⟩, ⟨S1, main_v43⟩, ⟨S1, main_v44⟩] concatenates_S1_S1_S1_S3_d0
  fn_part2 (F := F) main_arg0 main_arg1 main_arg3 main_v4 main_v45

def fn {F : FTy → Type} [FloatOps F] (main_arg0 : FVec F S1x2048x3 .f32) (main_arg1 : IVec S1x4096x3 32) (main_arg2 : FVec F S1x4096x2x2x2x3 .f32) (main_arg3 : FVec F S3 .f32) (main_arg4 : FVec F S3 .f32) (main_arg5 : FVec F S1x3x512x512 .f32) : IVec S512x512x4096 1 :=
  let main_v0 : FVec F S3 .f32 := Host.negf main_arg3
  let main_v1 : FVec F S_ .f32 := fn_norm (F := F) main_v0
  let main_cst : FVec F S_ .f32 := constant S_ .f32 0x2B8CBCCC#32
  let main_v2 : FVec F S_ .f32 := addf main_v1 main_cst
  let main_v3 : FVec F S3 .f32 := broadcastInDim S3 ![] bcast_S_S3 main_v2
  let main_v4 : FVec F S3 .f32 := Host.divf main_v0 main_v3
  let main_v5 : FVec F S_ .f32 := fn_norm_0 (F := F) main_arg4
  let main_cst_0 : FVec F S_ .f32 := constant S_ .f32 0x2B8CBCCC#32
  let main_v6 : FVec F S_ .f32 := addf main_v5 main_cst_0
  let main_v7 : FVec F S3 .f32 := broadcastInDim S3 ![] bcast_S_S3 main_v6
  let main_v8 : FVec F S3 .f32 := Host.divf main_arg4 main_v7
  let main_v9 : FVec F S1 .f32 := (extractStridedSlice S1 ![1] · slices_S3_S1_1) main_v8
  let main_v10 : FVec F S_ .f32 := shapeCast S_ main_v9 shapeCasts_S1_S_
  let main_v11 : FVec F S1 .f32 := (extractStridedSlice S1 ![2] · slices_S3_S1_2) main_v4
  let main_v12 : FVec F S_ .f32 := shapeCast S_ main_v11 shapeCasts_S1_S_
  let main_v13 : FVec F S_ .f32 := mulf main_v10 main_v12
  let main_v14 : FVec F S1 .f32 := (extractStridedSlice S1 ![2] · slices_S3_S1_2) main_v8
  let main_v15 : FVec F S_ .f32 := shapeCast S_ main_v14 shapeCasts_S1_S_
  let main_v16 : FVec F S1 .f32 := (extractStridedSlice S1 ![1] · slices_S3_S1_1) main_v4
  let main_v17 : FVec F S_ .f32 := shapeCast S_ main_v16 shapeCasts_S1_S_
  let main_v18 : FVec F S_ .f32 := mulf main_v15 main_v17
  let main_v19 : FVec F S_ .f32 := subf main_v13 main_v18
  let main_v20 : FVec F S1 .f32 := (extractStridedSlice S1 ![2] · slices_S3_S1_2) main_v8
  let main_v21 : FVec F S_ .f32 := shapeCast S_ main_v20 shapeCasts_S1_S_
  fn_part1 (F := F) main_arg0 main_arg1 main_arg3 main_v4 main_v8 main_v19 main_v21
-- ==== Kernel.lean ====
abbrev S1x2048x3 : Shape := ⟨3, ![1, 2048, 3]⟩
abbrev S1x4096x3 : Shape := ⟨3, ![1, 4096, 3]⟩
abbrev S1x4096x2x2x2x3 : Shape := ⟨6, ![1, 4096, 2, 2, 2, 3]⟩
abbrev S3 : Shape := ⟨1, ![3]⟩
abbrev S1x3x512x512 : Shape := ⟨4, ![1, 3, 512, 512]⟩
abbrev S_ : Shape := ⟨0, ![]⟩
abbrev S1 : Shape := ⟨1, ![1]⟩
abbrev S1x3 : Shape := ⟨2, ![1, 3]⟩
abbrev S3x3 : Shape := ⟨2, ![3, 3]⟩
abbrev S2048x3 : Shape := ⟨2, ![2048, 3]⟩
abbrev S2048x1 : Shape := ⟨2, ![2048, 1]⟩
abbrev S2048 : Shape := ⟨1, ![2048]⟩
abbrev S2048x2 : Shape := ⟨2, ![2048, 2]⟩
abbrev S4096x2x2x2x3 : Shape := ⟨5, ![4096, 2, 2, 2, 3]⟩
abbrev S4096x3 : Shape := ⟨2, ![4096, 3]⟩
abbrev S4096x3x1 : Shape := ⟨3, ![4096, 3, 1]⟩
abbrev S4096x3x2 : Shape := ⟨3, ![4096, 3, 2]⟩
abbrev S4096x1x1 : Shape := ⟨3, ![4096, 1, 1]⟩
abbrev S4096 : Shape := ⟨1, ![4096]⟩
abbrev S4096x1 : Shape := ⟨2, ![4096, 1]⟩
abbrev S1x4096 : Shape := ⟨2, ![1, 4096]⟩
abbrev S15x4096 : Shape := ⟨2, ![15, 4096]⟩
abbrev S1x2048 : Shape := ⟨2, ![1, 2048]⟩
abbrev S2x2048 : Shape := ⟨2, ![2, 2048]⟩
abbrev S3x512x512 : Shape := ⟨3, ![3, 512, 512]⟩
abbrev S8x1x512 : Shape := ⟨3, ![8, 1, 512]⟩
abbrev S3x64x512 : Shape := ⟨3, ![3, 64, 512]⟩
abbrev S1x1x512 : Shape := ⟨3, ![1, 1, 512]⟩
abbrev S64x512 : Shape := ⟨2, ![64, 512]⟩
abbrev S1x1 : Shape := ⟨2, ![1, 1]⟩
abbrev S1x64x512 : Shape := ⟨3, ![1, 64, 512]⟩
abbrev S512 : Shape := ⟨1, ![512]⟩
abbrev S1x512 : Shape := ⟨2, ![1, 512]⟩

abbrev nBuf : Space → Nat
  | .hbm => 315
  | .vmem => 8
  | .smem => 2
  | _ => 0

abbrev hbmTy0_0 (i : Nat) : BufTy := match i % 128 with
  | 0 => ⟨S1x2048x3, .f32⟩
  | 1 => ⟨S1x4096x3, .i32⟩
  | 2 => ⟨S1x4096x2x2x2x3, .f32⟩
  | 3 => ⟨S3, .f32⟩
  | 4 => ⟨S3, .f32⟩
  | 5 => ⟨S1x3x512x512, .f32⟩
  | 6 => ⟨S3, .f32⟩
  | 7 => ⟨S3, .f32⟩
  | 8 => ⟨S_, .f32⟩
  | 9 => ⟨S_, .f32⟩
  | 10 => ⟨S_, .f32⟩
  | 11 => ⟨S_, .f32⟩
  | 12 => ⟨S_, .f32⟩
  | 13 => ⟨S3, .f32⟩
  | 14 => ⟨S3, .f32⟩
  | 15 => ⟨S3, .f32⟩
  | 16 => ⟨S_, .f32⟩
  | 17 => ⟨S_, .f32⟩
  | 18 => ⟨S_, .f32⟩
  | 19 => ⟨S_, .f32⟩
  | 20 => ⟨S_, .f32⟩
  | 21 => ⟨S3, .f32⟩
  | 22 => ⟨S3, .f32⟩
  | 23 => ⟨S1, .f32⟩
  | 24 => ⟨S_, .f32⟩
  | 25 => ⟨S1, .f32⟩
  | 26 => ⟨S_, .f32⟩
  | 27 => ⟨S1, .f32⟩
  | 28 => ⟨S_, .f32⟩
  | 29 => ⟨S1, .f32⟩
  | 30 => ⟨S_, .f32⟩
  | 31 => ⟨S1, .f32⟩
  | 32 => ⟨S_, .f32⟩
  | 33 => ⟨S1, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S1, .f32⟩
  | 46 => ⟨S1, .f32⟩
  | 47 => ⟨S3, .f32⟩
  | 48 => ⟨S3, .f32⟩
  | 49 => ⟨S_, .f32⟩
  | 50 => ⟨S_, .f32⟩
  | 51 => ⟨S_, .f32⟩
  | 52 => ⟨S_, .f32⟩
  | 53 => ⟨S_, .f32⟩
  | 54 => ⟨S3, .f32⟩
  | 55 => ⟨S3, .f32⟩
  | 56 => ⟨S1, .f32⟩
  | 57 => ⟨S_, .f32⟩
  | 58 => ⟨S1, .f32⟩
  | 59 => ⟨S_, .f32⟩
  | 60 => ⟨S1, .f32⟩
  | 61 => ⟨S_, .f32⟩
  | 62 => ⟨S1, .f32⟩
  | 63 => ⟨S_, .f32⟩
  | 64 => ⟨S1, .f32⟩
  | 65 => ⟨S_, .f32⟩
  | 66 => ⟨S1, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S1, .f32⟩
  | 78 => ⟨S1, .f32⟩
  | 79 => ⟨S1, .f32⟩
  | 80 => ⟨S3, .f32⟩
  | 81 => ⟨S1x3, .f32⟩
  | 82 => ⟨S1x3, .f32⟩
  | 83 => ⟨S1x3, .f32⟩
  | 84 => ⟨S3x3, .f32⟩
  | 85 => ⟨S2048x3, .f32⟩
  | 86 => ⟨S1x3, .f32⟩
  | 87 => ⟨S2048x3, .f32⟩
  | 88 => ⟨S2048x3, .f32⟩
  | 89 => ⟨S3x3, .f32⟩
  | 90 => ⟨S2048x3, .f32⟩
  | 91 => ⟨S2048x1, .f32⟩
  | 92 => ⟨S2048, .f32⟩
  | 93 => ⟨S2048x2, .f32⟩
  | 94 => ⟨S2048x1, .f32⟩
  | 95 => ⟨S_, .f32⟩
  | 96 => ⟨S2048x1, .f32⟩
  | 97 => ⟨S2048x1, .f32⟩
  | 98 => ⟨S_, .f32⟩
  | 99 => ⟨S2048x1, .f32⟩
  | 100 => ⟨S2048x1, .f32⟩
  | 101 => ⟨S2048x2, .f32⟩
  | 102 => ⟨S2048x2, .f32⟩
  | 103 => ⟨S4096x2x2x2x3, .f32⟩
  | 104 => ⟨S_, .f32⟩
  | 105 => ⟨S4096x3, .f32⟩
  | 106 => ⟨S_, .f32⟩
  | 107 => ⟨S4096x3, .f32⟩
  | 108 => ⟨S4096x3, .f32⟩
  | 109 => ⟨S4096x3, .i32⟩
  | 110 => ⟨S_, .i32⟩
  | 111 => ⟨S4096x3, .i32⟩
  | 112 => ⟨S4096x3, .i1⟩
  | 113 => ⟨S_, .i32⟩
  | 114 => ⟨S4096x3, .i32⟩
  | 115 => ⟨S4096x3, .i32⟩
  | 116 => ⟨S4096x3, .i32⟩
  | 117 => ⟨S4096x3x1, .i32⟩
  | 118 => ⟨S4096x3x2, .f32⟩
  | 119 => ⟨S4096x3, .i32⟩
  | 120 => ⟨S_, .i32⟩
  | 121 => ⟨S4096x3, .i32⟩
  | 122 => ⟨S4096x3, .i1⟩
  | 123 => ⟨S_, .i32⟩
  | 124 => ⟨S4096x3, .i32⟩
  | 125 => ⟨S4096x3, .i32⟩
  | 126 => ⟨S4096x3, .i32⟩
  | 127 => ⟨S4096x3x1, .i32⟩
  | _ => ⟨S1x2048x3, .f32⟩

abbrev hbmTy0_1 (i : Nat) : BufTy := match i % 128 with
  | 0 => ⟨S4096x3, .f32⟩
  | 1 => ⟨S4096x1x1, .f32⟩
  | 2 => ⟨S4096, .f32⟩
  | 3 => ⟨S4096x1x1, .f32⟩
  | 4 => ⟨S4096, .f32⟩
  | 5 => ⟨S4096x1x1, .f32⟩
  | 6 => ⟨S4096, .f32⟩
  | 7 => ⟨S4096x1x1, .f32⟩
  | 8 => ⟨S4096, .f32⟩
  | 9 => ⟨S4096x1x1, .f32⟩
  | 10 => ⟨S4096, .f32⟩
  | 11 => ⟨S4096x1x1, .f32⟩
  | 12 => ⟨S4096, .f32⟩
  | 13 => ⟨S4096, .f32⟩
  | 14 => ⟨S4096, .f32⟩
  | 15 => ⟨S4096, .f32⟩
  | 16 => ⟨S4096, .f32⟩
  | 17 => ⟨S4096, .f32⟩
  | 18 => ⟨S4096, .f32⟩
  | 19 => ⟨S4096, .f32⟩
  | 20 => ⟨S4096, .f32⟩
  | 21 => ⟨S_, .f32⟩
  | 22 => ⟨S4096, .f32⟩
  | 23 => ⟨S4096, .i1⟩
  | 24 => ⟨S_, .f32⟩
  | 25 => ⟨S_, .f32⟩
  | 26 => ⟨S4096, .f32⟩
  | 27 => ⟨S4096, .f32⟩
  | 28 => ⟨S4096, .f32⟩
  | 29 => ⟨S4096, .f32⟩
  | 30 => ⟨S4096, .f32⟩
  | 31 => ⟨S4096, .f32⟩
  | 32 => ⟨S4096, .f32⟩
  | 33 => ⟨S4096, .f32⟩
  | 34 => ⟨S4096, .f32⟩
  | 35 => ⟨S4096, .f32⟩
  | 36 => ⟨S4096, .f32⟩
  | 37 => ⟨S4096, .f32⟩
  | 38 => ⟨S4096, .f32⟩
  | 39 => ⟨S4096, .f32⟩
  | 40 => ⟨S4096, .f32⟩
  | 41 => ⟨S4096, .f32⟩
  | 42 => ⟨S4096, .f32⟩
  | 43 => ⟨S4096, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S4096, .f32⟩
  | 51 => ⟨S4096, .f32⟩
  | 52 => ⟨S4096, .f32⟩
  | 53 => ⟨S_, .f32⟩
  | 54 => ⟨S4096, .f32⟩
  | 55 => ⟨S4096, .f32⟩
  | 56 => ⟨S4096x1, .f32⟩
  | 57 => ⟨S4096, .f32⟩
  | 58 => ⟨S4096, .f32⟩
  | 59 => ⟨S4096x1, .f32⟩
  | 60 => ⟨S4096, .f32⟩
  | 61 => ⟨S4096, .f32⟩
  | 62 => ⟨S4096, .f32⟩
  | 63 => ⟨S4096x1, .f32⟩
  | 64 => ⟨S4096, .f32⟩
  | 65 => ⟨S4096, .f32⟩
  | 66 => ⟨S4096, .f32⟩
  | 67 => ⟨S4096, .f32⟩
  | 68 => ⟨S4096x1, .f32⟩
  | 69 => ⟨S4096, .f32⟩
  | 70 => ⟨S4096, .f32⟩
  | 71 => ⟨S4096x1, .f32⟩
  | 72 => ⟨S4096, .f32⟩
  | 73 => ⟨S4096, .f32⟩
  | 74 => ⟨S4096, .f32⟩
  | 75 => ⟨S4096x1, .f32⟩
  | 76 => ⟨S4096, .f32⟩
  | 77 => ⟨S4096, .f32⟩
  | 78 => ⟨S4096, .f32⟩
  | 79 => ⟨S4096, .f32⟩
  | 80 => ⟨S4096x1, .f32⟩
  | 81 => ⟨S4096, .f32⟩
  | 82 => ⟨S4096, .f32⟩
  | 83 => ⟨S4096x1, .f32⟩
  | 84 => ⟨S4096, .f32⟩
  | 85 => ⟨S4096, .f32⟩
  | 86 => ⟨S4096, .f32⟩
  | 87 => ⟨S4096x1, .f32⟩
  | 88 => ⟨S4096, .f32⟩
  | 89 => ⟨S4096, .f32⟩
  | 90 => ⟨S4096, .f32⟩
  | 91 => ⟨S4096, .f32⟩
  | 92 => ⟨S_, .f32⟩
  | 93 => ⟨S_, .f32⟩
  | 94 => ⟨S4096, .f32⟩
  | 95 => ⟨S4096, .f32⟩
  | 96 => ⟨S_, .f32⟩
  | 97 => ⟨S_, .f32⟩
  | 98 => ⟨S4096, .f32⟩
  | 99 => ⟨S4096, .f32⟩
  | 100 => ⟨S_, .f32⟩
  | 101 => ⟨S4096, .f32⟩
  | 102 => ⟨S4096, .f32⟩
  | 103 => ⟨S_, .f32⟩
  | 104 => ⟨S_, .f32⟩
  | 105 => ⟨S4096, .f32⟩
  | 106 => ⟨S4096, .f32⟩
  | 107 => ⟨S4096, .f32⟩
  | 108 => ⟨S4096, .f32⟩
  | 109 => ⟨S4096, .f32⟩
  | 110 => ⟨S4096, .f32⟩
  | 111 => ⟨S4096, .f32⟩
  | 112 => ⟨S4096, .f32⟩
  | 113 => ⟨S4096, .f32⟩
  | 114 => ⟨S4096, .f32⟩
  | 115 => ⟨S4096, .f32⟩
  | 116 => ⟨S4096, .f32⟩
  | 117 => ⟨S4096, .f32⟩
  | 118 => ⟨S4096, .f32⟩
  | 119 => ⟨S4096, .f32⟩
  | 120 => ⟨S4096x1, .f32⟩
  | 121 => ⟨S4096, .f32⟩
  | 122 => ⟨S4096x1, .f32⟩
  | 123 => ⟨S4096, .f32⟩
  | 124 => ⟨S4096x1, .f32⟩
  | 125 => ⟨S4096, .f32⟩
  | 126 => ⟨S1x4096, .f32⟩
  | 127 => ⟨S1x4096, .f32⟩
  | _ => ⟨S1x2048x3, .f32⟩

abbrev hbmTy0_2 (i : Nat) : BufTy := match i % 128 with
  | 0 => ⟨S1x4096, .f32⟩
  | 1 => ⟨S1x4096, .f32⟩
  | 2 => ⟨S1x4096, .f32⟩
  | 3 => ⟨S1x4096, .f32⟩
  | 4 => ⟨S1x4096, .f32⟩
  | 5 => ⟨S1x4096, .f32⟩
  | 6 => ⟨S1x4096, .f32⟩
  | 7 => ⟨S1x4096, .f32⟩
  | 8 => ⟨S1x4096, .f32⟩
  | 9 => ⟨S1x4096, .f32⟩
  | 10 => ⟨S1x4096, .f32⟩
  | 11 => ⟨S1x4096, .f32⟩
  | 12 => ⟨S1x4096, .f32⟩
  | 13 => ⟨S15x4096, .f32⟩
  | 14 => ⟨S4096, .f32⟩
  | 15 => ⟨S4096, .i32⟩
  | 16 => ⟨S4096, .f32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S15x4096, .f32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S4096, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096, .f32⟩
  | 45 => ⟨S2048, .f32⟩
  | 46 => ⟨S2048, .f32⟩
  | 47 => ⟨S2048, .f32⟩
  | 48 => ⟨S2048, .f32⟩
  | 49 => ⟨S2048, .f32⟩
  | 50 => ⟨S2048, .f32⟩
  | 51 => ⟨S1x2048, .f32⟩
  | 52 => ⟨S1x2048, .f32⟩
  | 53 => ⟨S2x2048, .f32⟩
  | 54 => ⟨S1x3x512x512, .f32⟩
  | 55 => ⟨S3x512x512, .f32⟩
  | 56 => ⟨S8x1x512, .f32⟩
  | 57 => ⟨S_, .f32⟩
  | 58 => ⟨S_, .f32⟩
  | _ => ⟨S1x2048x3, .f32⟩

abbrev hbmTy (i : Nat) : BufTy := match i / 128 with
  | 0 => hbmTy0_0 i
  | 1 => hbmTy0_1 i
  | 2 => hbmTy0_2 i
  | _ => ⟨S1x2048x3, .f32⟩

abbrev bufTy : (tb : Table) → Fin (tcTables nBuf tb) → BufTy
  | .hbm, ⟨i, _⟩ => hbmTy i
  | .local _ .vmem, ⟨0, _⟩ => ⟨S3x64x512, .f32⟩
  | .local _ .vmem, ⟨1, _⟩ => ⟨S3x64x512, .f32⟩
  | .local _ .vmem, ⟨2, _⟩ => ⟨S1x1x512, .f32⟩
  | .local _ .vmem, ⟨3, _⟩ => ⟨S1x1x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .smem, ⟨0, _⟩ => ⟨S15x4096, .f32⟩
  | .local _ .smem, ⟨1, _⟩ => ⟨S2x2048, .f32⟩
  | _, _ => ⟨S1x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_v12 : Ref sig .tc := ⟨.hbm, 35, rfl⟩
abbrev main_call2_v13 : Ref sig .tc := ⟨.hbm, 36, rfl⟩
abbrev main_call2_v14 : Ref sig .tc := ⟨.hbm, 37, rfl⟩
abbrev main_call2_v15 : Ref sig .tc := ⟨.hbm, 38, rfl⟩
abbrev main_call2_v16 : Ref sig .tc := ⟨.hbm, 39, rfl⟩
abbrev main_call2_v17 : Ref sig .tc := ⟨.hbm, 40, rfl⟩
abbrev main_call2_v18 : Ref sig .tc := ⟨.hbm, 41, rfl⟩
abbrev main_call2_v19 : Ref sig .tc := ⟨.hbm, 42, rfl⟩
abbrev main_call2_v20 : Ref sig .tc := ⟨.hbm, 43, rfl⟩
abbrev main_call2_v21 : Ref sig .tc := ⟨.hbm, 44, rfl⟩
abbrev main_call2_v22 : Ref sig .tc := ⟨.hbm, 45, rfl⟩
abbrev main_call2_v23 : Ref sig .tc := ⟨.hbm, 46, rfl⟩
abbrev main_v9 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_v5 : Ref sig .tc := ⟨.hbm, 61, rfl⟩
abbrev main_call4_v6 : Ref sig .tc := ⟨.hbm, 62, rfl⟩
abbrev main_call4_v7 : Ref sig .tc := ⟨.hbm, 63, rfl⟩
abbrev main_call4_v8 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_call4_v15 : Ref sig .tc := ⟨.hbm, 71, rfl⟩
abbrev main_call4_v16 : Ref sig .tc := ⟨.hbm, 72, rfl⟩
abbrev main_call4_v17 : Ref sig .tc := ⟨.hbm, 73, rfl⟩
abbrev main_call4_v18 : Ref sig .tc := ⟨.hbm, 74, rfl⟩
abbrev main_call4_v19 : Ref sig .tc := ⟨.hbm, 75, rfl⟩
abbrev main_call4_v20 : Ref sig .tc := ⟨.hbm, 76, rfl⟩
abbrev main_call4_v21 : Ref sig .tc := ⟨.hbm, 77, rfl⟩
abbrev main_call4_v22 : Ref sig .tc := ⟨.hbm, 78, rfl⟩
abbrev main_call4_v23 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_cst_2 : Ref sig .tc := ⟨.hbm, 95, rfl⟩
abbrev main_v29 : Ref sig .tc := ⟨.hbm, 96, rfl⟩
abbrev main_v30 : Ref sig .tc := ⟨.hbm, 97, rfl⟩
abbrev main_cst_3 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_cst_4 : Ref sig .tc := ⟨.hbm, 104, rfl⟩
abbrev main_v36 : Ref sig .tc := ⟨.hbm, 105, rfl⟩
abbrev main_cst_5 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_c : Ref sig .tc := ⟨.hbm, 110, rfl⟩
abbrev main_v40 : Ref sig .tc := ⟨.hbm, 111, rfl⟩
abbrev main_v41 : Ref sig .tc := ⟨.hbm, 112, rfl⟩
abbrev main_c_6 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_c_7 : Ref sig .tc := ⟨.hbm, 120, rfl⟩
abbrev main_v48 : Ref sig .tc := ⟨.hbm, 121, rfl⟩
abbrev main_v49 : Ref sig .tc := ⟨.hbm, 122, rfl⟩
abbrev main_c_8 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_cst_9 : Ref sig .tc := ⟨.hbm, 149, rfl⟩
abbrev main_v75 : Ref sig .tc := ⟨.hbm, 150, rfl⟩
abbrev main_v76 : Ref sig .tc := ⟨.hbm, 151, rfl⟩
abbrev main_cst_10 : Ref sig .tc := ⟨.hbm, 152, rfl⟩
abbrev main_call5_v0 : Ref sig .tc := ⟨.hbm, 153, rfl⟩
abbrev main_call5_v1 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_cst_11 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_cst_12 : Ref sig .tc := ⟨.hbm, 220, rfl⟩
abbrev main_call6_v0 : Ref sig .tc := ⟨.hbm, 221, rfl⟩
abbrev main_call6_v1 : Ref sig .tc := ⟨.hbm, 222, rfl⟩
abbrev main_v141 : Ref sig .tc := ⟨.hbm, 223, rfl⟩
abbrev main_cst_13 : Ref sig .tc := ⟨.hbm, 224, rfl⟩
abbrev main_call7_v0 : Ref sig .tc := ⟨.hbm, 225, rfl⟩
abbrev main_call7_v1 : Ref sig .tc := ⟨.hbm, 226, rfl⟩
abbrev main_v142 : Ref sig .tc := ⟨.hbm, 227, rfl⟩
abbrev main_cst_14 : Ref sig .tc := ⟨.hbm, 228, rfl⟩
abbrev main_v143 : Ref sig .tc := ⟨.hbm, 229, rfl⟩
abbrev main_v144 : Ref sig .tc := ⟨.hbm, 230, rfl⟩
abbrev main_cst_15 : Ref sig .tc := ⟨.hbm, 231, rfl⟩
abbrev main_call8_v0 : Ref sig .tc := ⟨.hbm, 232, rfl⟩
abbrev main_call8_v1 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_call9_v0 : Ref sig .tc := ⟨.hbm, 271, rfl⟩
abbrev main_call9_v1_0 : Ref sig .tc := ⟨.hbm, 272, rfl⟩
abbrev main_v182 : Ref sig .tc := ⟨.hbm, 273, rfl⟩
abbrev main_c_16 : Ref sig .tc := ⟨.hbm, 274, rfl⟩
abbrev main_v183 : Ref sig .tc := ⟨.hbm, 275, rfl⟩
abbrev main_v184 : Ref sig .tc := ⟨.hbm, 276, rfl⟩
abbrev main_c_17 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_c_18 : Ref sig .tc := ⟨.hbm, 283, rfl⟩
abbrev main_v190 : Ref sig .tc := ⟨.hbm, 284, rfl⟩
abbrev main_v191 : Ref sig .tc := ⟨.hbm, 285, rfl⟩
abbrev main_c_19 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_c_20 : Ref sig .tc := ⟨.hbm, 292, rfl⟩
abbrev main_v197 : Ref sig .tc := ⟨.hbm, 293, rfl⟩
abbrev main_v198 : Ref sig .tc := ⟨.hbm, 294, rfl⟩
abbrev main_c_21 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_cst_22 : Ref sig .tc := ⟨.hbm, 313, rfl⟩
abbrev main_v216 : Ref sig .tc := ⟨.hbm, 314, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2048_i32 : BitVec 32 := 2048#32
  let v36 : BitVec 32 := Scalar.addi c0_i32 c2048_i32
  let c1_i32 : BitVec 32 := 1#32
  ⟨c0_i32, v36, c1_i32⟩
def k0_off1 (k0_t1 : Fin k0_t1_loop.trips) : Fin 2 → Nat :=
  let c0_37 : Index := 0#32
  let c0_i32 : BitVec 32 := 0#32
  let c1_i32 : BitVec 32 := 1#32
  let arg9 : BitVec 32 := Scf.iv c0_i32 c1_i32 k0_t1
  let v58 : Index := Scalar.indexCast arg9
  ![0, v58.toNat]
def k0_off2 (k0_t1 : Fin k0_t1_loop.trips) : Fin 2 → Nat :=
  let c1_38 : Index := 1#32
  let c0_i32 : BitVec 32 := 0#32
  let c1_i32 : BitVec 32 := 1#32
  let arg9 : BitVec 32 := Scf.iv c0_i32 c1_i32 k0_t1
  let v61 : Index := Scalar.indexCast arg9
  ![1, v61.toNat]
def k0_off3 (k0_t1 : Fin k0_t1_loop.trips) : Fin 2 → Nat :=
  let c0_40 : Index := 0#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v68 : Index := Scalar.indexCast v67
  ![0, v68.toNat]
def k0_off4 (k0_t1 : Fin k0_t1_loop.trips) : Fin 2 → Nat :=
  let c1_41 : Index := 1#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v72 : Index := Scalar.indexCast v67
  ![1, v72.toNat]
def k0_off5 (k0_t1 : Fin k0_t1_loop.trips) : Fin 2 → Nat :=
  let c2_42 : Index := 2#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v76 : Index := Scalar.indexCast v67
  ![2, v76.toNat]
def k0_off6 (k0_t1 : Fin k0_t1_loop.trips) : Fin 2 → Nat :=
  let c3 : Index := 3#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v81 : Index := Scalar.indexCast v67
  ![3, v81.toNat]
def k0_off7 (k0_t1 : Fin k0_t1_loop.trips) : Fin 2 → Nat :=
  let c4 : Index := 4#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v85 : Index := Scalar.indexCast v67
  ![4, v85.toNat]
def k0_off8 (k0_t1 : Fin k0_t1_loop.trips) : Fin 2 → Nat :=
  let c5 : Index := 5#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v89 : Index := Scalar.indexCast v67
  ![5, v89.toNat]
def k0_off9 (k0_t1 : Fin k0_t1_loop.trips) : Fin 2 → Nat :=
  let c6 : Index := 6#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v94 : Index := Scalar.indexCast v67
  ![6, v94.toNat]
def k0_off10 (k0_t1 : Fin k0_t1_loop.trips) : Fin 2 → Nat :=
  let c7 : Index := 7#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v98 : Index := Scalar.indexCast v67
  ![7, v98.toNat]
def k0_off11 (k0_t1 : Fin k0_t1_loop.trips) : Fin 2 → Nat :=
  let c8 : Index := 8#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v102 : Index := Scalar.indexCast v67
  ![8, v102.toNat]
def k0_off12 (k0_t1 : Fin k0_t1_loop.trips) : Fin 2 → Nat :=
  let c9 : Index := 9#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v107 : Index := Scalar.indexCast v67
  ![9, v107.toNat]
def k0_off13 (k0_t1 : Fin k0_t1_loop.trips) : Fin 2 → Nat :=
  let c10 : Index := 10#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v111 : Index := Scalar.indexCast v67
  ![10, v111.toNat]
def k0_off14 (k0_t1 : Fin k0_t1_loop.trips) : Fin 2 → Nat :=
  let c11 : Index := 11#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v115 : Index := Scalar.indexCast v67
  ![11, v115.toNat]
def k0_off15 (k0_t1 : Fin k0_t1_loop.trips) : Fin 2 → Nat :=
  let c12 : Index := 12#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v132 : Index := Scalar.indexCast v67
  ![12, v132.toNat]
def k0_off16 (k0_t1 : Fin k0_t1_loop.trips) : Fin 2 → Nat :=
  let c13 : Index := 13#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v140 : Index := Scalar.indexCast v67
  ![13, v140.toNat]
def k0_off17 (k0_t1 : Fin k0_t1_loop.trips) : Fin 2 → Nat :=
  let c14 : Index := 14#32
  let c2_i32 : BitVec 32 := 2#32
  let c0_i32 : BitVec 32 := 0#32
  let c1_i32 : BitVec 32 := 1#32
  let arg9 : BitVec 32 := Scf.iv c0_i32 c1_i32 k0_t1
  let v67 : BitVec 32 := Scalar.muli c2_i32 arg9
  let v148 : Index := Scalar.indexCast v67
  ![14, v148.toNat]
def k0_off18 (k0_t1 : Fin k0_t1_loop.trips) : Fin 2 → Nat :=
  let c0_62 : Index := 0#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v158 : Index := Scalar.indexCast v157
  ![0, v158.toNat]
def k0_off19 (k0_t1 : Fin k0_t1_loop.trips) : Fin 2 → Nat :=
  let c1_63 : Index := 1#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v162 : Index := Scalar.indexCast v157
  ![1, v162.toNat]
def k0_off20 (k0_t1 : Fin k0_t1_loop.trips) : Fin 2 → Nat :=
  let c2_64 : Index := 2#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v166 : Index := Scalar.indexCast v157
  ![2, v166.toNat]
def k0_off21 (k0_t1 : Fin k0_t1_loop.trips) : Fin 2 → Nat :=
  let c3_65 : Index := 3#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v171 : Index := Scalar.indexCast v157
  ![3, v171.toNat]
def k0_off22 (k0_t1 : Fin k0_t1_loop.trips) : Fin 2 → Nat :=
  let c4_66 : Index := 4#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v175 : Index := Scalar.indexCast v157
  ![4, v175.toNat]
def k0_off23 (k0_t1 : Fin k0_t1_loop.trips) : Fin 2 → Nat :=
  let c5_67 : Index := 5#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v179 : Index := Scalar.indexCast v157
  ![5, v179.toNat]
def k0_off24 (k0_t1 : Fin k0_t1_loop.trips) : Fin 2 → Nat :=
  let c6_68 : Index := 6#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v184 : Index := Scalar.indexCast v157
  ![6, v184.toNat]
def k0_off25 (k0_t1 : Fin k0_t1_loop.trips) : Fin 2 → Nat :=
  let c7_69 : Index := 7#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v188 : Index := Scalar.indexCast v157
  ![7, v188.toNat]
def k0_off26 (k0_t1 : Fin k0_t1_loop.trips) : Fin 2 → Nat :=
  let c8_70 : Index := 8#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v192 : Index := Scalar.indexCast v157
  ![8, v192.toNat]
def k0_off27 (k0_t1 : Fin k0_t1_loop.trips) : Fin 2 → Nat :=
  let c9_71 : Index := 9#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v197 : Index := Scalar.indexCast v157
  ![9, v197.toNat]
def k0_off28 (k0_t1 : Fin k0_t1_loop.trips) : Fin 2 → Nat :=
  let c10_72 : Index := 10#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v201 : Index := Scalar.indexCast v157
  ![10, v201.toNat]
def k0_off29 (k0_t1 : Fin k0_t1_loop.trips) : Fin 2 → Nat :=
  let c11_73 : Index := 11#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v205 : Index := Scalar.indexCast v157
  ![11, v205.toNat]
def k0_off30 (k0_t1 : Fin k0_t1_loop.trips) : Fin 2 → Nat :=
  let c12_79 : Index := 12#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v222 : Index := Scalar.indexCast v157
  ![12, v222.toNat]
def k0_off31 (k0_t1 : Fin k0_t1_loop.trips) : Fin 2 → Nat :=
  let c13_84 : Index := 13#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v230 : Index := Scalar.indexCast v157
  ![13, v230.toNat]
def k0_off32 (k0_t1 : Fin k0_t1_loop.trips) : Fin 2 → Nat :=
  let c14_89 : Index := 14#32
  let c2_i32_60 : BitVec 32 := 2#32
  let c0_i32 : BitVec 32 := 0#32
  let c1_i32 : BitVec 32 := 1#32
  let arg9 : BitVec 32 := Scf.iv c0_i32 c1_i32 k0_t1
  let v156 : BitVec 32 := Scalar.muli c2_i32_60 arg9
  let c1_i32_61 : BitVec 32 := 1#32
  let v157 : BitVec 32 := Scalar.addi v156 c1_i32_61
  let v238 : Index := Scalar.indexCast v157
  ![14, v238.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S15x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x2048x3 : Shape := ⟨3, ![1, 2048, 3]⟩
abbrev S1x4096x3 : Shape := ⟨3, ![1, 4096, 3]⟩
abbrev S1x4096x2x2x2x3 : Shape := ⟨6, ![1, 4096, 2, 2, 2, 3]⟩
abbrev S3 : Shape := ⟨1, ![3]⟩
abbrev S1x3x512x512 : Shape := ⟨4, ![1, 3, 512, 512]⟩
abbrev S_ : Shape := ⟨0, ![]⟩
abbrev S1 : Shape := ⟨1, ![1]⟩
abbrev S1x3 : Shape := ⟨2, ![1, 3]⟩
abbrev S3x3 : Shape := ⟨2, ![3, 3]⟩
abbrev S2048x3 : Shape := ⟨2, ![2048, 3]⟩
abbrev S2048x1 : Shape := ⟨2, ![2048, 1]⟩
abbrev S2048 : Shape := ⟨1, ![2048]⟩
abbrev S2048x2 : Shape := ⟨2, ![2048, 2]⟩
abbrev S4096x3 : Shape := ⟨2, ![4096, 3]⟩
abbrev S4096x3x1 : Shape := ⟨3, ![4096, 3, 1]⟩
abbrev S4096x3x2 : Shape := ⟨3, ![4096, 3, 2]⟩
abbrev S4096x2x2x2x3 : Shape := ⟨5, ![4096, 2, 2, 2, 3]⟩
abbrev S512 : Shape := ⟨1, ![512]⟩
abbrev S1x512x1 : Shape := ⟨3, ![1, 512, 1]⟩
abbrev S512x1x1 : Shape := ⟨3, ![512, 1, 1]⟩
abbrev S4096x1x1 : Shape := ⟨3, ![4096, 1, 1]⟩
abbrev S4096 : Shape := ⟨1, ![4096]⟩
abbrev S1x1x4096 : Shape := ⟨3, ![1, 1, 4096]⟩
abbrev S1x512x4096 : Shape := ⟨3, ![1, 512, 4096]⟩
abbrev S512x1x4096 : Shape := ⟨3, ![512, 1, 4096]⟩
abbrev S512x512x4096 : Shape := ⟨3, ![512, 512, 4096]⟩
abbrev S4096x1 : Shape := ⟨2, ![4096, 1]⟩
abbrev S512x512 : Shape := ⟨2, ![512, 512]⟩
abbrev S512x512x1 : Shape := ⟨3, ![512, 512, 1]⟩
abbrev S512x512x3 : Shape := ⟨3, ![512, 512, 3]⟩
abbrev S3x512x512 : Shape := ⟨3, ![3, 512, 512]⟩

abbrev nBuf : Space → Nat
  | .hbm => 365
  | .vmem => 0
  | .smem => 0
  | _ => 0

abbrev hbmTy0_0 (i : Nat) : BufTy := match i % 128 with
  | 0 => ⟨S1x2048x3, .f32⟩
  | 1 => ⟨S1x4096x3, .i32⟩
  | 2 => ⟨S1x4096x2x2x2x3, .f32⟩
  | 3 => ⟨S3, .f32⟩
  | 4 => ⟨S3, .f32⟩
  | 5 => ⟨S1x3x512x512, .f32⟩
  | 6 => ⟨S3, .f32⟩
  | 7 => ⟨S3, .f32⟩
  | 8 => ⟨S_, .f32⟩
  | 9 => ⟨S_, .f32⟩
  | 10 => ⟨S_, .f32⟩
  | 11 => ⟨S_, .f32⟩
  | 12 => ⟨S_, .f32⟩
  | 13 => ⟨S3, .f32⟩
  | 14 => ⟨S3, .f32⟩
  | 15 => ⟨S3, .f32⟩
  | 16 => ⟨S_, .f32⟩
  | 17 => ⟨S_, .f32⟩
  | 18 => ⟨S_, .f32⟩
  | 19 => ⟨S_, .f32⟩
  | 20 => ⟨S_, .f32⟩
  | 21 => ⟨S3, .f32⟩
  | 22 => ⟨S3, .f32⟩
  | 23 => ⟨S1, .f32⟩
  | 24 => ⟨S_, .f32⟩
  | 25 => ⟨S1, .f32⟩
  | 26 => ⟨S_, .f32⟩
  | 27 => ⟨S_, .f32⟩
  | 28 => ⟨S1, .f32⟩
  | 29 => ⟨S_, .f32⟩
  | 30 => ⟨S1, .f32⟩
  | 31 => ⟨S_, .f32⟩
  | 32 => ⟨S_, .f32⟩
  | 33 => ⟨S_, .f32⟩
  | 34 => ⟨S1, .f32⟩
  | 35 => ⟨S_, .f32⟩
  | 36 => ⟨S1, .f32⟩
  | 37 => ⟨S_, .f32⟩
  | 38 => ⟨S_, .f32⟩
  | 39 => ⟨S1, .f32⟩
  | 40 => ⟨S_, .f32⟩
  | 41 => ⟨S1, .f32⟩
  | 42 => ⟨S_, .f32⟩
  | 43 => ⟨S_, .f32⟩
  | 44 => ⟨S_, .f32⟩
  | 45 => ⟨S1, .f32⟩
  | 46 => ⟨S_, .f32⟩
  | 47 => ⟨S1, .f32⟩
  | 48 => ⟨S_, .f32⟩
  | 49 => ⟨S_, .f32⟩
  | 50 => ⟨S1, .f32⟩
  | 51 => ⟨S_, .f32⟩
  | 52 => ⟨S1, .f32⟩
  | 53 => ⟨S_, .f32⟩
  | 54 => ⟨S_, .f32⟩
  | 55 => ⟨S_, .f32⟩
  | 56 => ⟨S1, .f32⟩
  | 57 => ⟨S1, .f32⟩
  | 58 => ⟨S1, .f32⟩
  | 59 => ⟨S3, .f32⟩
  | 60 => ⟨S3, .f32⟩
  | 61 => ⟨S_, .f32⟩
  | 62 => ⟨S_, .f32⟩
  | 63 => ⟨S_, .f32⟩
  | 64 => ⟨S_, .f32⟩
  | 65 => ⟨S_, .f32⟩
  | 66 => ⟨S3, .f32⟩
  | 67 => ⟨S3, .f32⟩
  | 68 => ⟨S1, .f32⟩
  | 69 => ⟨S_, .f32⟩
  | 70 => ⟨S1, .f32⟩
  | 71 => ⟨S_, .f32⟩
  | 72 => ⟨S_, .f32⟩
  | 73 => ⟨S1, .f32⟩
  | 74 => ⟨S_, .f32⟩
  | 75 => ⟨S1, .f32⟩
  | 76 => ⟨S_, .f32⟩
  | 77 => ⟨S_, .f32⟩
  | 78 => ⟨S_, .f32⟩
  | 79 => ⟨S1, .f32⟩
  | 80 => ⟨S_, .f32⟩
  | 81 => ⟨S1, .f32⟩
  | 82 => ⟨S_, .f32⟩
  | 83 => ⟨S_, .f32⟩
  | 84 => ⟨S1, .f32⟩
  | 85 => ⟨S_, .f32⟩
  | 86 => ⟨S1, .f32⟩
  | 87 => ⟨S_, .f32⟩
  | 88 => ⟨S_, .f32⟩
  | 89 => ⟨S_, .f32⟩
  | 90 => ⟨S1, .f32⟩
  | 91 => ⟨S_, .f32⟩
  | 92 => ⟨S1, .f32⟩
  | 93 => ⟨S_, .f32⟩
  | 94 => ⟨S_, .f32⟩
  | 95 => ⟨S1, .f32⟩
  | 96 => ⟨S_, .f32⟩
  | 97 => ⟨S1, .f32⟩
  | 98 => ⟨S_, .f32⟩
  | 99 => ⟨S_, .f32⟩
  | 100 => ⟨S_, .f32⟩
  | 101 => ⟨S1, .f32⟩
  | 102 => ⟨S1, .f32⟩
  | 103 => ⟨S1, .f32⟩
  | 104 => ⟨S3, .f32⟩
  | 105 => ⟨S1x3, .f32⟩
  | 106 => ⟨S1x3, .f32⟩
  | 107 => ⟨S1x3, .f32⟩
  | 108 => ⟨S3x3, .f32⟩
  | 109 => ⟨S2048x3, .f32⟩
  | 110 => ⟨S1x3, .f32⟩
  | 111 => ⟨S2048x3, .f32⟩
  | 112 => ⟨S2048x3, .f32⟩
  | 113 => ⟨S3x3, .f32⟩
  | 114 => ⟨S2048x3, .f32⟩
  | 115 => ⟨S2048x1, .f32⟩
  | 116 => ⟨S2048, .f32⟩
  | 117 => ⟨S2048x2, .f32⟩
  | 118 => ⟨S2048x1, .f32⟩
  | 119 => ⟨S_, .f32⟩
  | 120 => ⟨S2048x1, .f32⟩
  | 121 => ⟨S2048x1, .f32⟩
  | 122 => ⟨S_, .f32⟩
  | 123 => ⟨S2048x1, .f32⟩
  | 124 => ⟨S2048x1, .f32⟩
  | 125 => ⟨S2048x2, .f32⟩
  | 126 => ⟨S2048x2, .f32⟩
  | 127 => ⟨S4096x3, .i32⟩
  | _ => ⟨S1x2048x3, .f32⟩

abbrev hbmTy0_1 (i : Nat) : BufTy := match i % 128 with
  | 0 => ⟨S_, .i32⟩
  | 1 => ⟨S4096x3, .i32⟩
  | 2 => ⟨S4096x3, .i1⟩
  | 3 => ⟨S_, .i32⟩
  | 4 => ⟨S4096x3, .i32⟩
  | 5 => ⟨S4096x3, .i32⟩
  | 6 => ⟨S4096x3, .i32⟩
  | 7 => ⟨S4096x3x1, .i32⟩
  | 8 => ⟨S4096x3x2, .f32⟩
  | 9 => ⟨S4096x3, .i32⟩
  | 10 => ⟨S_, .i32⟩
  | 11 => ⟨S4096x3, .i32⟩
  | 12 => ⟨S4096x3, .i1⟩
  | 13 => ⟨S_, .i32⟩
  | 14 => ⟨S4096x3, .i32⟩
  | 15 => ⟨S4096x3, .i32⟩
  | 16 => ⟨S4096x3, .i32⟩
  | 17 => ⟨S4096x3x1, .i32⟩
  | 18 => ⟨S4096x3, .f32⟩
  | 19 => ⟨S4096x2x2x2x3, .f32⟩
  | 20 => ⟨S_, .f32⟩
  | 21 => ⟨S4096x3, .f32⟩
  | 22 => ⟨S_, .f32⟩
  | 23 => ⟨S4096x3, .f32⟩
  | 24 => ⟨S4096x3, .f32⟩
  | 25 => ⟨S512, .f32⟩
  | 26 => ⟨S_, .f32⟩
  | 27 => ⟨S512, .f32⟩
  | 28 => ⟨S512, .f32⟩
  | 29 => ⟨S_, .f32⟩
  | 30 => ⟨S512, .f32⟩
  | 31 => ⟨S512, .f32⟩
  | 32 => ⟨S_, .f32⟩
  | 33 => ⟨S512, .f32⟩
  | 34 => ⟨S512, .f32⟩
  | 35 => ⟨S_, .f32⟩
  | 36 => ⟨S512, .f32⟩
  | 37 => ⟨S512, .f32⟩
  | 38 => ⟨S512, .f32⟩
  | 39 => ⟨S_, .f32⟩
  | 40 => ⟨S512, .f32⟩
  | 41 => ⟨S512, .f32⟩
  | 42 => ⟨S_, .f32⟩
  | 43 => ⟨S512, .f32⟩
  | 44 => ⟨S512, .f32⟩
  | 45 => ⟨S_, .f32⟩
  | 46 => ⟨S512, .f32⟩
  | 47 => ⟨S512, .f32⟩
  | 48 => ⟨S_, .f32⟩
  | 49 => ⟨S512, .f32⟩
  | 50 => ⟨S512, .f32⟩
  | 51 => ⟨S1x512x1, .f32⟩
  | 52 => ⟨S512x1x1, .f32⟩
  | 53 => ⟨S4096x1x1, .f32⟩
  | 54 => ⟨S4096, .f32⟩
  | 55 => ⟨S4096x1x1, .f32⟩
  | 56 => ⟨S4096, .f32⟩
  | 57 => ⟨S4096x1x1, .f32⟩
  | 58 => ⟨S4096, .f32⟩
  | 59 => ⟨S4096x1x1, .f32⟩
  | 60 => ⟨S4096, .f32⟩
  | 61 => ⟨S4096x1x1, .f32⟩
  | 62 => ⟨S4096, .f32⟩
  | 63 => ⟨S4096x1x1, .f32⟩
  | 64 => ⟨S4096, .f32⟩
  | 65 => ⟨S4096, .f32⟩
  | 66 => ⟨S4096, .f32⟩
  | 67 => ⟨S4096, .f32⟩
  | 68 => ⟨S4096, .f32⟩
  | 69 => ⟨S4096, .f32⟩
  | 70 => ⟨S4096, .f32⟩
  | 71 => ⟨S4096, .f32⟩
  | 72 => ⟨S4096, .f32⟩
  | 73 => ⟨S_, .f32⟩
  | 74 => ⟨S4096, .f32⟩
  | 75 => ⟨S4096, .i1⟩
  | 76 => ⟨S_, .f32⟩
  | 77 => ⟨S_, .f32⟩
  | 78 => ⟨S4096, .f32⟩
  | 79 => ⟨S4096, .f32⟩
  | 80 => ⟨S4096, .f32⟩
  | 81 => ⟨S4096, .f32⟩
  | 82 => ⟨S1x1x4096, .f32⟩
  | 83 => ⟨S1x512x4096, .f32⟩
  | 84 => ⟨S1x512x4096, .f32⟩
  | 85 => ⟨S1x512x4096, .f32⟩
  | 86 => ⟨S1x1x4096, .f32⟩
  | 87 => ⟨S512x1x4096, .f32⟩
  | 88 => ⟨S512x1x4096, .f32⟩
  | 89 => ⟨S512x1x4096, .f32⟩
  | 90 => ⟨S1x1x4096, .f32⟩
  | 91 => ⟨S512x1x4096, .f32⟩
  | 92 => ⟨S512x1x4096, .f32⟩
  | 93 => ⟨S1x1x4096, .f32⟩
  | 94 => ⟨S1x512x4096, .f32⟩
  | 95 => ⟨S1x512x4096, .f32⟩
  | 96 => ⟨S512x512x4096, .f32⟩
  | 97 => ⟨S512x512x4096, .f32⟩
  | 98 => ⟨S512x512x4096, .f32⟩
  | 99 => ⟨S4096, .f32⟩
  | 100 => ⟨S4096, .f32⟩
  | 101 => ⟨S1x1x4096, .f32⟩
  | 102 => ⟨S1x512x4096, .f32⟩
  | 103 => ⟨S1x512x4096, .f32⟩
  | 104 => ⟨S1x512x4096, .f32⟩
  | 105 => ⟨S1x1x4096, .f32⟩
  | 106 => ⟨S512x1x4096, .f32⟩
  | 107 => ⟨S512x1x4096, .f32⟩
  | 108 => ⟨S512x1x4096, .f32⟩
  | 109 => ⟨S1x1x4096, .f32⟩
  | 110 => ⟨S512x1x4096, .f32⟩
  | 111 => ⟨S512x1x4096, .f32⟩
  | 112 => ⟨S1x1x4096, .f32⟩
  | 113 => ⟨S1x512x4096, .f32⟩
  | 114 => ⟨S1x512x4096, .f32⟩
  | 115 => ⟨S512x512x4096, .f32⟩
  | 116 => ⟨S512x512x4096, .f32⟩
  | 117 => ⟨S512x512x4096, .f32⟩
  | 118 => ⟨S4096, .f32⟩
  | 119 => ⟨S4096, .f32⟩
  | 120 => ⟨S1x1x4096, .f32⟩
  | 121 => ⟨S1x512x4096, .f32⟩
  | 122 => ⟨S1x512x4096, .f32⟩
  | 123 => ⟨S1x512x4096, .f32⟩
  | 124 => ⟨S1x1x4096, .f32⟩
  | 125 => ⟨S512x1x4096, .f32⟩
  | 126 => ⟨S512x1x4096, .f32⟩
  | 127 => ⟨S512x1x4096, .f32⟩
  | _ => ⟨S1x2048x3, .f32⟩

abbrev hbmTy0_2 (i : Nat) : BufTy := match i % 128 with
  | 0 => ⟨S1x1x4096, .f32⟩
  | 1 => ⟨S512x1x4096, .f32⟩
  | 2 => ⟨S512x1x4096, .f32⟩
  | 3 => ⟨S1x1x4096, .f32⟩
  | 4 => ⟨S1x512x4096, .f32⟩
  | 5 => ⟨S1x512x4096, .f32⟩
  | 6 => ⟨S512x512x4096, .f32⟩
  | 7 => ⟨S512x512x4096, .f32⟩
  | 8 => ⟨S512x512x4096, .f32⟩
  | 9 => ⟨S4096, .f32⟩
  | 10 => ⟨S1x1x4096, .f32⟩
  | 11 => ⟨S512x512x4096, .f32⟩
  | 12 => ⟨S512x512x4096, .f32⟩
  | 13 => ⟨S_, .f32⟩
  | 14 => ⟨S512x512x4096, .f32⟩
  | 15 => ⟨S512x512x4096, .i1⟩
  | 16 => ⟨S1x1x4096, .f32⟩
  | 17 => ⟨S512x512x4096, .f32⟩
  | 18 => ⟨S512x512x4096, .f32⟩
  | 19 => ⟨S_, .f32⟩
  | 20 => ⟨S512x512x4096, .f32⟩
  | 21 => ⟨S512x512x4096, .i1⟩
  | 22 => ⟨S512x512x4096, .i1⟩
  | 23 => ⟨S1x1x4096, .f32⟩
  | 24 => ⟨S512x512x4096, .f32⟩
  | 25 => ⟨S512x512x4096, .f32⟩
  | 26 => ⟨S_, .f32⟩
  | 27 => ⟨S512x512x4096, .f32⟩
  | 28 => ⟨S512x512x4096, .i1⟩
  | 29 => ⟨S512x512x4096, .i1⟩
  | 30 => ⟨S4096, .f32⟩
  | 31 => ⟨S_, .f32⟩
  | 32 => ⟨S4096, .f32⟩
  | 33 => ⟨S4096, .i1⟩
  | 34 => ⟨S1x1x4096, .i1⟩
  | 35 => ⟨S512x512x4096, .i1⟩
  | 36 => ⟨S512x512x4096, .i1⟩
  | 37 => ⟨S1x1x4096, .f32⟩
  | 38 => ⟨S512x512x4096, .f32⟩
  | 39 => ⟨S512x512x4096, .f32⟩
  | 40 => ⟨S1x1x4096, .f32⟩
  | 41 => ⟨S512x512x4096, .f32⟩
  | 42 => ⟨S512x512x4096, .f32⟩
  | 43 => ⟨S1x1x4096, .f32⟩
  | 44 => ⟨S512x512x4096, .f32⟩
  | 45 => ⟨S512x512x4096, .f32⟩
  | 46 => ⟨S4096x1, .f32⟩
  | 47 => ⟨S4096, .f32⟩
  | 48 => ⟨S1x1x4096, .f32⟩
  | 49 => ⟨S512x512x4096, .f32⟩
  | 50 => ⟨S512x512x4096, .f32⟩
  | 51 => ⟨S4096x1, .f32⟩
  | 52 => ⟨S4096, .f32⟩
  | 53 => ⟨S1x1x4096, .f32⟩
  | 54 => ⟨S512x512x4096, .f32⟩
  | 55 => ⟨S512x512x4096, .f32⟩
  | 56 => ⟨S512x512x4096, .f32⟩
  | 57 => ⟨S4096x1, .f32⟩
  | 58 => ⟨S4096, .f32⟩
  | 59 => ⟨S1x1x4096, .f32⟩
  | 60 => ⟨S512x512x4096, .f32⟩
  | 61 => ⟨S512x512x4096, .f32⟩
  | 62 => ⟨S512x512x4096, .f32⟩
  | 63 => ⟨S_, .f32⟩
  | 64 => ⟨S512x512x4096, .f32⟩
  | 65 => ⟨S512x512x4096, .i1⟩
  | 66 => ⟨S512x512x4096, .i1⟩
  | 67 => ⟨S_, .f32⟩
  | 68 => ⟨S_, .f32⟩
  | 69 => ⟨S512x512x4096, .f32⟩
  | 70 => ⟨S512x512x4096, .f32⟩
  | 71 => ⟨S_, .f32⟩
  | 72 => ⟨S512x512, .f32⟩
  | 73 => ⟨S4096, .i32⟩
  | 74 => ⟨S512x512x1, .f32⟩
  | 75 => ⟨S512x512x4096, .f32⟩
  | 76 => ⟨S512x512x4096, .i1⟩
  | 77 => ⟨S_, .i32⟩
  | 78 => ⟨S_, .i32⟩
  | 79 => ⟨S512x512x4096, .i32⟩
  | 80 => ⟨S512x512x4096, .i32⟩
  | 81 => ⟨S512x512x4096, .i32⟩
  | 82 => ⟨S_, .i32⟩
  | 83 => ⟨S512x512, .i32⟩
  | 84 => ⟨S_, .f32⟩
  | 85 => ⟨S512x512, .f32⟩
  | 86 => ⟨S512x512, .i1⟩
  | 87 => ⟨S512x512x1, .i1⟩
  | 88 => ⟨S_, .i32⟩
  | 89 => ⟨S512x512, .i32⟩
  | 90 => ⟨S512x512, .i1⟩
  | 91 => ⟨S_, .i32⟩
  | 92 => ⟨S512x512, .i32⟩
  | 93 => ⟨S512x512, .i32⟩
  | 94 => ⟨S512x512, .i32⟩
  | 95 => ⟨S512x512x1, .i32⟩
  | 96 => ⟨S512x512x3, .f32⟩
  | 97 => ⟨S_, .f32⟩
  | 98 => ⟨S_, .f32⟩
  | 99 => ⟨S512x512x3, .i1⟩
  | 100 => ⟨S512x512x3, .f32⟩
  | 101 => ⟨S512x512x3, .f32⟩
  | 102 => ⟨S3x512x512, .f32⟩
  | 103 => ⟨S1x3x512x512, .f32⟩
  | 104 => ⟨S1x3x512x512, .f32⟩
  | 105 => ⟨S1x3x512x512, .f32⟩
  | 106 => ⟨S1x3x512x512, .f32⟩
  | 107 => ⟨S_, .f32⟩
  | 108 => ⟨S_, .f32⟩
  | _ => ⟨S1x2048x3, .f32⟩

abbrev hbmTy (i : Nat) : BufTy := match i / 128 with
  | 0 => hbmTy0_0 i
  | 1 => hbmTy0_1 i
  | 2 => hbmTy0_2 i
  | _ => ⟨S1x2048x3, .f32⟩

abbrev bufTy : (tb : Table) → Fin (tcTables nBuf tb) → BufTy
  | .hbm, ⟨i, _⟩ => hbmTy i
  | _, _ => ⟨S1x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call2_v0 : Ref sig .tc := ⟨.hbm, 60, rfl⟩
abbrev main_call2_cst : Ref sig .tc := ⟨.hbm, 61, rfl⟩
abbrev main_call2_v1 : Ref sig .tc := ⟨.hbm, 62, rfl⟩
abbrev main_v46 : Ref sig .tc := ⟨.hbm, 63, rfl⟩
abbrev main_cst_1 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_2 : Ref sig .tc := ⟨.hbm, 119, rfl⟩
abbrev main_v101 : Ref sig .tc := ⟨.hbm, 120, rfl⟩
abbrev main_v102 : Ref sig .tc := ⟨.hbm, 121, rfl⟩
abbrev main_cst_3 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_c : Ref sig .tc := ⟨.hbm, 128, rfl⟩
abbrev main_v108 : Ref sig .tc := ⟨.hbm, 129, rfl⟩
abbrev main_v109 : Ref sig .tc := ⟨.hbm, 130, rfl⟩
abbrev main_c_4 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_c_5 : Ref sig .tc := ⟨.hbm, 138, rfl⟩
abbrev main_v116 : Ref sig .tc := ⟨.hbm, 139, rfl⟩
abbrev main_v117 : Ref sig .tc := ⟨.hbm, 140, rfl⟩
abbrev main_c_6 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_7 : Ref sig .tc := ⟨.hbm, 148, rfl⟩
abbrev main_v124 : Ref sig .tc := ⟨.hbm, 149, rfl⟩
abbrev main_cst_8 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_9 : Ref sig .tc := ⟨.hbm, 154, rfl⟩
abbrev main_v128 : Ref sig .tc := ⟨.hbm, 155, rfl⟩
abbrev main_v129 : Ref sig .tc := ⟨.hbm, 156, rfl⟩
abbrev main_cst_10 : Ref sig .tc := ⟨.hbm, 157, rfl⟩
abbrev main_v130 : Ref sig .tc := ⟨.hbm, 158, rfl⟩
abbrev main_v131 : Ref sig .tc := ⟨.hbm, 159, rfl⟩
abbrev main_cst_11 : Ref sig .tc := ⟨.hbm, 160, rfl⟩
abbrev main_v132 : Ref sig .tc := ⟨.hbm, 161, rfl⟩
abbrev main_v133 : Ref sig .tc := ⟨.hbm, 162, rfl⟩
abbrev main_cst_12 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_13 : Ref sig .tc := ⟨.hbm, 167, rfl⟩
abbrev main_v137 : Ref sig .tc := ⟨.hbm, 168, rfl⟩
abbrev main_v138 : Ref sig .tc := ⟨.hbm, 169, rfl⟩
abbrev main_cst_14 : Ref sig .tc := ⟨.hbm, 170, rfl⟩
abbrev main_v139 : Ref sig .tc := ⟨.hbm, 171, rfl⟩
abbrev main_v140 : Ref sig .tc := ⟨.hbm, 172, rfl⟩
abbrev main_cst_15 : Ref sig .tc := ⟨.hbm, 173, rfl⟩
abbrev main_v141 : Ref sig .tc := ⟨.hbm, 174, rfl⟩
abbrev main_v142 : Ref sig .tc := ⟨.hbm, 175, rfl⟩
abbrev main_cst_16 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_17 : Ref sig .tc := ⟨.hbm, 201, rfl⟩
abbrev main_v167 : Ref sig .tc := ⟨.hbm, 202, rfl⟩
abbrev main_v168 : Ref sig .tc := ⟨.hbm, 203, rfl⟩
abbrev main_cst_18 : Ref sig .tc := ⟨.hbm, 204, rfl⟩
abbrev main_call3_v0 : Ref sig .tc := ⟨.hbm, 205, rfl⟩
abbrev main_call3_v1 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_cst_19 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_cst_20 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_cst_21 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_cst_22 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_cst_23 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_cst_24 : Ref sig .tc := ⟨.hbm, 323, rfl⟩
abbrev main_call4_v0 : Ref sig .tc := ⟨.hbm, 324, rfl⟩
abbrev main_call4_v1 : Ref sig .tc := ⟨.hbm, 325, rfl⟩
abbrev main_v280 : Ref sig .tc := ⟨.hbm, 326, rfl⟩
abbrev main_cst_25 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_c_26 : Ref sig .tc := ⟨.hbm, 333, rfl⟩
abbrev main_call5_v0 : Ref sig .tc := ⟨.hbm, 334, rfl⟩
abbrev main_call5_v1 : Ref sig .tc := ⟨.hbm, 335, rfl⟩
abbrev main_call5_v2 : Ref sig .tc := ⟨.hbm, 336, rfl⟩
abbrev main_v286 : Ref sig .tc := ⟨.hbm, 337, rfl⟩
abbrev main_c_27 : Ref sig .tc := ⟨.hbm, 338, rfl⟩
abbrev main_v287 : Ref sig .tc := ⟨.hbm, 339, rfl⟩
abbrev main_cst_28 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_c_29 : Ref sig .tc := ⟨.hbm, 344, rfl⟩
abbrev main_v291 : Ref sig .tc := ⟨.hbm, 345, rfl⟩
abbrev main_v292 : Ref sig .tc := ⟨.hbm, 346, rfl⟩
abbrev main_c_30 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_v296 : Ref sig .tc := ⟨.hbm, 351, rfl⟩
abbrev main_v297 : Ref sig .tc := ⟨.hbm, 352, rfl⟩
abbrev main_cst_31 : Ref sig .tc := ⟨.hbm, 353, rfl⟩
abbrev main_call6_v0 : Ref sig .tc := ⟨.hbm, 354, rfl⟩
abbrev main_call6_v1 : Ref sig .tc := ⟨.hbm, 355, rfl⟩
abbrev main_call6_v2 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_cst_32 : Ref sig .tc := ⟨.hbm, 363, rfl⟩
abbrev main_v304 : Ref sig .tc := ⟨.hbm, 364, rfl⟩

abbrev nD : Nat := 1
abbrev τ : Topo := Topo.v7x

variable {F : FTy → Type} [FloatOps F]
-- ==== Proof.KernelIdealTrip.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic
public import Idealize.ShloMosaic.Lib.ValueIdxCore
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- A memref's buffer on core `c`, and it held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## What a trip computes -/

/-- The four scratch arrays: depth and colour. -/
@[ext] structure Scr (F : FTy → Type) where
  z : FVec F S64x512 .f32
  r : FVec F S64x512 .f32
  g : FVec F S64x512 .f32
  b : FVec F S64x512 .f32

/-- One face drawn over the scratch arrays: `q` is the face's column of the table. -/
def faceScr (v9 v18 : FVec F S64x512 .f32) (q : Fin 15 → F .f32) (s : Scr F) : Scr F :=
  let w0 := k0_pay16 v9 v18 (q 0) (q 1) (q 2)
  let w1 := k0_pay17 v9 v18 (q 3) (q 4) (q 5)
  let w2 := k0_pay18 v9 v18 (q 6) (q 7) (q 8)
  ⟨k0_pay21 v9 v18 w0 w1 w2 (q 9) (q 10) (q 11) s.z,
   k0_pay22 v9 v18 w0 w1 w2 (q 9) (q 10) (q 11) s.z (q 12) s.r,
   k0_pay23 v9 v18 w0 w1 w2 (q 9) (q 10) (q 11) s.z (q 13) s.g,
   k0_pay2 (k0_pay20 v9 v18 w0 w1 w2 (q 9) (q 10) (q 11) s.z) (q 14) s.b⟩

/-- Whether the pair of faces is drawn on the tile: its range of rows meets the tile's. -/
def hit (v14 v19 p0 p1 : F .f32) : Prop :=
  Scalar.cmpi .ne (Scalar.extui (Scalar.andi (Scalar.cmpf .ole p0 v14) (Scalar.cmpf .oge p1 v19))) 0#32 = 1#1

instance (v14 v19 p0 p1 : F .f32) : Decidable (hit v14 v19 p0 p1) := Classical.propDecidable _

/-- A column of the faces' table. -/
def col (cf : S15x4096.Idx → F .f32) (j : Fin 4096) : Fin 15 → F .f32 := fun a => cf (ix2 a j)

/-- Trip `k`: the faces `2k` and `2k + 1`, or none. -/
def tripScr (cf : S15x4096.Idx → F .f32) (pb : S2x2048.Idx → F .f32) (v9 : FVec F S64x512 .f32) (v14 : F .f32)
    (v18 : FVec F S64x512 .f32) (v19 : F .f32) (k : Fin 2048) (s : Scr F) : Scr F :=
  if hit v14 v19 (pb (ix2 0 k)) (pb (ix2 1 k)) then
    faceScr v9 v18 (col cf ⟨2 * k.val + 1, by omega⟩) (faceScr v9 v18 (col cf ⟨2 * k.val, by omega⟩) s)
  else s

/-- The scratch arrays before trip `n`. -/
def scrAt (cf : S15x4096.Idx → F .f32) (pb : S2x2048.Idx → F .f32) (v9 : FVec F S64x512 .f32) (v14 : F .f32)
    (v18 : FVec F S64x512 .f32) (v19 : F .f32) : ℕ → Scr F
  | 0 => ⟨k0_pay28, k0_pay29, k0_pay30, k0_pay1 k0_pay31⟩
  | n + 1 => if h : n < 2048 then tripScr cf pb v9 v14 v18 v19 ⟨n, h⟩ (scrAt cf pb v9 v14 v18 v19 n)
             else scrAt cf pb v9 v14 v18 v19 n

/-! A load of a whole scratch buffer. -/

theorem readCov64 [∀ e, Nonempty (Elt F e)] (M : Memref sig .tc .vmem S64x512 .f32) (w : (Rect.unit (s := S64x512) ![0, 0] ![64, 512] inb_S64x512_S64x512_0_0).shape.Idx → Elt F .f32) (L : List (View.Piece (Elt F) S64x512 .f32)) :
    M.view.readCov (Val := Elt F) (⟨Rect.unit (s := S64x512) ![0, 0] ![64, 512] inb_S64x512_S64x512_0_0, w⟩ :: L)
      (Rect.unit (s := S64x512) ![0, 0] ![64, 512] inb_S64x512_S64x512_0_0).toLoadRect = w := by
  funext y
  have := congrFun (View.readCov_full M.view inb_S64x512_S64x512_0_0 inb_S64x512_S64x512_0_0 w L) y
  exact this

theorem readAt64 (M : Memref sig .tc .vmem S64x512 .f32) (f : M.view.ty.Contents (Elt F)) :
    M.view.readAt (Elt F) (Rect.unit (s := S64x512) ![0, 0] ![64, 512] inb_S64x512_S64x512_0_0).toLoadRect f = M.view.read (Elt F) f :=
  View.readAt_full M.view f inb_S64x512_S64x512_0_0

/-! The two faces of a trip are computed alike. -/

theorem pay4_eq (v9 v18 : FVec F S64x512 .f32) (a b c : F .f32) : k0_pay4 v9 v18 a b c = k0_pay16 v9 v18 a b c := rfl
theorem pay5_eq (v9 v18 : FVec F S64x512 .f32) (a b c : F .f32) : k0_pay5 v9 v18 a b c = k0_pay17 v9 v18 a b c := rfl
theorem pay6_eq (v9 v18 : FVec F S64x512 .f32) (a b c : F .f32) : k0_pay6 v9 v18 a b c = k0_pay18 v9 v18 a b c := rfl
theorem pay11_eq (v9 v18 w0 w1 w2 z : FVec F S64x512 .f32) (a b c : F .f32) :
    k0_pay11 w0 w1 w2 (k0_pay7 v9 a) (k0_pay8 v18 b) c z = k0_pay21 v9 v18 w0 w1 w2 a b c z := rfl
theorem pay12_eq (v9 v18 w0 w1 w2 z r : FVec F S64x512 .f32) (a b c d : F .f32) :
    k0_pay12 w0 w1 w2 (k0_pay7 v9 a) (k0_pay8 v18 b) c z d r = k0_pay22 v9 v18 w0 w1 w2 a b c z d r := rfl
theorem pay13_eq (v9 v18 w0 w1 w2 z r : FVec F S64x512 .f32) (a b c d : F .f32) :
    k0_pay13 w0 w1 w2 (k0_pay7 v9 a) (k0_pay8 v18 b) c z d r = k0_pay23 v9 v18 w0 w1 w2 a b c z d r := rfl
theorem pay15_eq (v9 v18 w0 w1 w2 z r : FVec F S64x512 .f32) (a b c d : F .f32) :
    k0_pay15 (k0_pay14 w0 w1 w2 (k0_pay7 v9 a) (k0_pay8 v18 b) c z d r) = k0_pay2 (k0_pay20 v9 v18 w0 w1 w2 a b c z) d r := rfl

theorem one_pos : 0 < S1x1.numel := by rw [numel1_S1x1]; exact Nat.one_pos

/-- The word a load of one element reads, at an offset in closed form. -/
theorem word_eq {sp : Space} {S : Shape} {e : EltTy} (v : View sig .tc sp S e) (f : v.ty.Contents (Elt F)) {off off' size : Fin S.rank → ℕ}
    (eo : off = off') (inb : ∀ a, off a + size a ≤ S.size a) (x : (Rect.unit off size inb).shape.Idx) (j : S.Idx)
    (hj : ∀ a, (j a).val = off' a + (x a).val) :
    v.readAt (Elt F) (Rect.unit off size inb).toLoadRect f x = v.read (Elt F) f j := by
  subst eo
  exact congrArg (v.read (Elt F) f) (funext fun a => Fin.ext (by
    show off a + 1 * (x a).val = (j a).val
    rw [hj a]; omega))

/-- The even face of a pair, as the trip's loads read it. -/
theorem col_even (c : Dev nD) (arg1 : Memref sig .tc .smem S15x4096 .f32) (f1 : Bf (F := F) c arg1) (k : Fin k0_t1_loop.trips) (h : 2 * k.val < 4096) :
    col (arg1.view.read (Elt F) f1) ⟨2 * k.val, h⟩ = ![arg1.view.readAt (Elt F) (Rect.unit (s := S15x4096) (k0_off3 k) S1x1.size (k0_off3_inb k)).toLoadRect f1 (Shape.Idx.first one_pos),
      arg1.view.readAt (Elt F) (Rect.unit (s := S15x4096) (k0_off4 k) S1x1.size (k0_off4_inb k)).toLoadRect f1 (Shape.Idx.first one_pos),
      arg1.view.readAt (Elt F) (Rect.unit (s := S15x4096) (k0_off5 k) S1x1.size (k0_off5_inb k)).toLoadRect f1 (Shape.Idx.first one_pos),
      arg1.view.readAt (Elt F) (Rect.unit (s := S15x4096) (k0_off6 k) S1x1.size (k0_off6_inb k)).toLoadRect f1 (Shape.Idx.first one_pos),
      arg1.view.readAt (Elt F) (Rect.unit (s := S15x4096) (k0_off7 k) S1x1.size (k0_off7_inb k)).toLoadRect f1 (Shape.Idx.first one_pos),
      arg1.view.readAt (Elt F) (Rect.unit (s := S15x4096) (k0_off8 k) S1x1.size (k0_off8_inb k)).toLoadRect f1 (Shape.Idx.first one_pos),
      arg1.view.readAt (Elt F) (Rect.unit (s := S15x4096) (k0_off9 k) S1x1.size (k0_off9_inb k)).toLoadRect f1 (Shape.Idx.first one_pos),
      arg1.view.readAt (Elt F) (Rect.unit (s := S15x4096) (k0_off10 k) S1x1.size (k0_off10_inb k)).toLoadRect f1 (Shape.Idx.first one_pos),
      arg1.view.readAt (Elt F) (Rect.unit (s := S15x4096) (k0_off11 k) S1x1.size (k0_off11_inb k)).toLoadRect f1 (Shape.Idx.first one_pos),
      arg1.view.readAt (Elt F) (Rect.unit (s := S15x4096) (k0_off12 k) S1x1.size (k0_off12_inb k)).toLoadRect f1 (Shape.Idx.first one_pos),
      arg1.view.readAt (Elt F) (Rect.unit (s := S15x4096) (k0_off13 k) S1x1.size (k0_off13_inb k)).toLoadRect f1 (Shape.Idx.first one_pos),
      arg1.view.readAt (Elt F) (Rect.unit (s := S15x4096) (k0_off14 k) S1x1.size (k0_off14_inb k)).toLoadRect f1 (Shape.Idx.first one_pos),
      arg1.view.readAt (Elt F) (Rect.unit (s := S15x4096) (k0_off15 k) S1x1.size (k0_off15_inb k)).toLoadRect f1 (Shape.Idx.first one_pos),
      arg1.view.readAt (Elt F) (Rect.unit (s := S15x4096) (k0_off16 k) S1x1.size (k0_off16_inb k)).toLoadRect f1 (Shape.Idx.first one_pos),
      arg1.view.readAt (Elt F) (Rect.unit (s := S15x4096) (k0_off17 k) S1x1.size (k0_off17_inb k)).toLoadRect f1 (Shape.Idx.first one_pos)] := by
  funext a
  fin_cases a
  · exact (word_eq arg1.view f1 (k0_off3_eq k) (k0_off3_inb k) (Shape.Idx.first one_pos) (ix2 0 ⟨2 * k.val, h⟩) (fun b => by fin_cases b <;> rfl)).symm
  · exact (word_eq arg1.view f1 (k0_off4_eq k) (k0_off4_inb k) (Shape.Idx.first one_pos) (ix2 1 ⟨2 * k.val, h⟩) (fun b => by fin_cases b <;> rfl)).symm
  · exact (word_eq arg1.view f1 (k0_off5_eq k) (k0_off5_inb k) (Shape.Idx.first one_pos) (ix2 2 ⟨2 * k.val, h⟩) (fun b => by fin_cases b <;> rfl)).symm
  · exact (word_eq arg1.view f1 (k0_off6_eq k) (k0_off6_inb k) (Shape.Idx.first one_pos) (ix2 3 ⟨2 * k.val, h⟩) (fun b => by fin_cases b <;> rfl)).symm
  · exact (word_eq arg1.view f1 (k0_off7_eq k) (k0_off7_inb k) (Shape.Idx.first one_pos) (ix2 4 ⟨2 * k.val, h⟩) (fun b => by fin_cases b <;> rfl)).symm
  · exact (word_eq arg1.view f1 (k0_off8_eq k) (k0_off8_inb k) (Shape.Idx.first one_pos) (ix2 5 ⟨2 * k.val, h⟩) (fun b => by fin_cases b <;> rfl)).symm
  · exact (word_eq arg1.view f1 (k0_off9_eq k) (k0_off9_inb k) (Shape.Idx.first one_pos) (ix2 6 ⟨2 * k.val, h⟩) (fun b => by fin_cases b <;> rfl)).symm
  · exact (word_eq arg1.view f1 (k0_off10_eq k) (k0_off10_inb k) (Shape.Idx.first one_pos) (ix2 7 ⟨2 * k.val, h⟩) (fun b => by fin_cases b <;> rfl)).symm
  · exact (word_eq arg1.view f1 (k0_off11_eq k) (k0_off11_inb k) (Shape.Idx.first one_pos) (ix2 8 ⟨2 * k.val, h⟩) (fun b => by fin_cases b <;> rfl)).symm
  · exact (word_eq arg1.view f1 (k0_off12_eq k) (k0_off12_inb k) (Shape.Idx.first one_pos) (ix2 9 ⟨2 * k.val, h⟩) (fun b => by fin_cases b <;> rfl)).symm
  · exact (word_eq arg1.view f1 (k0_off13_eq k) (k0_off13_inb k) (Shape.Idx.first one_pos) (ix2 10 ⟨2 * k.val, h⟩) (fun b => by fin_cases b <;> rfl)).symm
  · exact (word_eq arg1.view f1 (k0_off14_eq k) (k0_off14_inb k) (Shape.Idx.first one_pos) (ix2 11 ⟨2 * k.val, h⟩) (fun b => by fin_cases b <;> rfl)).symm
  · exact (word_eq arg1.view f1 (k0_off15_eq k) (k0_off15_inb k) (Shape.Idx.first one_pos) (ix2 12 ⟨2 * k.val, h⟩) (fun b => by fin_cases b <;> rfl)).symm
  · exact (word_eq arg1.view f1 (k0_off16_eq k) (k0_off16_inb k) (Shape.Idx.first one_pos) (ix2 13 ⟨2 * k.val, h⟩) (fun b => by fin_cases b <;> rfl)).symm
  · exact (word_eq arg1.view f1 (k0_off17_eq k) (k0_off17_inb k) (Shape.Idx.first one_pos) (ix2 14 ⟨2 * k.val, h⟩) (fun b => by fin_cases b <;> rfl)).symm

/-- The odd face of a pair, as the trip's loads read it. -/
theorem col_odd (c : Dev nD) (arg1 : Memref sig .tc .smem S15x4096 .f32) (f1 : Bf (F := F) c arg1) (k : Fin k0_t1_loop.trips) (h : 2 * k.val + 1 < 4096) :
    col (arg1.view.read (Elt F) f1) ⟨2 * k.val + 1, h⟩ = ![arg1.view.readAt (Elt F) (Rect.unit (s := S15x4096) (k0_off18 k) S1x1.size (k0_off18_inb k)).toLoadRect f1 (Shape.Idx.first one_pos),
      arg1.view.readAt (Elt F) (Rect.unit (s := S15x4096) (k0_off19 k) S1x1.size (k0_off19_inb k)).toLoadRect f1 (Shape.Idx.first one_pos),
      arg1.view.readAt (Elt F) (Rect.unit (s := S15x4096) (k0_off20 k) S1x1.size (k0_off20_inb k)).toLoadRect f1 (Shape.Idx.first one_pos),
      arg1.view.readAt (Elt F) (Rect.unit (s := S15x4096) (k0_off21 k) S1x1.size (k0_off21_inb k)).toLoadRect f1 (Shape.Idx.first one_pos),
      arg1.view.readAt (Elt F) (Rect.unit (s := S15x4096) (k0_off22 k) S1x1.size (k0_off22_inb k)).toLoadRect f1 (Shape.Idx.first one_pos),
      arg1.view.readAt (Elt F) (Rect.unit (s := S15x4096) (k0_off23 k) S1x1.size (k0_off23_inb k)).toLoadRect f1 (Shape.Idx.first one_pos),
      arg1.view.readAt (Elt F) (Rect.unit (s := S15x4096) (k0_off24 k) S1x1.size (k0_off24_inb k)).toLoadRect f1 (Shape.Idx.first one_pos),
      arg1.view.readAt (Elt F) (Rect.unit (s := S15x4096) (k0_off25 k) S1x1.size (k0_off25_inb k)).toLoadRect f1 (Shape.Idx.first one_pos),
      arg1.view.readAt (Elt F) (Rect.unit (s := S15x4096) (k0_off26 k) S1x1.size (k0_off26_inb k)).toLoadRect f1 (Shape.Idx.first one_pos),
      arg1.view.readAt (Elt F) (Rect.unit (s := S15x4096) (k0_off27 k) S1x1.size (k0_off27_inb k)).toLoadRect f1 (Shape.Idx.first one_pos),
      arg1.view.readAt (Elt F) (Rect.unit (s := S15x4096) (k0_off28 k) S1x1.size (k0_off28_inb k)).toLoadRect f1 (Shape.Idx.first one_pos),
      arg1.view.readAt (Elt F) (Rect.unit (s := S15x4096) (k0_off29 k) S1x1.size (k0_off29_inb k)).toLoadRect f1 (Shape.Idx.first one_pos),
      arg1.view.readAt (Elt F) (Rect.unit (s := S15x4096) (k0_off30 k) S1x1.size (k0_off30_inb k)).toLoadRect f1 (Shape.Idx.first one_pos),
      arg1.view.readAt (Elt F) (Rect.unit (s := S15x4096) (k0_off31 k) S1x1.size (k0_off31_inb k)).toLoadRect f1 (Shape.Idx.first one_pos),
      arg1.view.readAt (Elt F) (Rect.unit (s := S15x4096) (k0_off32 k) S1x1.size (k0_off32_inb k)).toLoadRect f1 (Shape.Idx.first one_pos)] := by
  funext a
  fin_cases a
  · exact (word_eq arg1.view f1 (k0_off18_eq k) (k0_off18_inb k) (Shape.Idx.first one_pos) (ix2 0 ⟨2 * k.val + 1, h⟩) (fun b => by fin_cases b <;> rfl)).symm
  · exact (word_eq arg1.view f1 (k0_off19_eq k) (k0_off19_inb k) (Shape.Idx.first one_pos) (ix2 1 ⟨2 * k.val + 1, h⟩) (fun b => by fin_cases b <;> rfl)).symm
  · exact (word_eq arg1.view f1 (k0_off20_eq k) (k0_off20_inb k) (Shape.Idx.first one_pos) (ix2 2 ⟨2 * k.val + 1, h⟩) (fun b => by fin_cases b <;> rfl)).symm
  · exact (word_eq arg1.view f1 (k0_off21_eq k) (k0_off21_inb k) (Shape.Idx.first one_pos) (ix2 3 ⟨2 * k.val + 1, h⟩) (fun b => by fin_cases b <;> rfl)).symm
  · exact (word_eq arg1.view f1 (k0_off22_eq k) (k0_off22_inb k) (Shape.Idx.first one_pos) (ix2 4 ⟨2 * k.val + 1, h⟩) (fun b => by fin_cases b <;> rfl)).symm
  · exact (word_eq arg1.view f1 (k0_off23_eq k) (k0_off23_inb k) (Shape.Idx.first one_pos) (ix2 5 ⟨2 * k.val + 1, h⟩) (fun b => by fin_cases b <;> rfl)).symm
  · exact (word_eq arg1.view f1 (k0_off24_eq k) (k0_off24_inb k) (Shape.Idx.first one_pos) (ix2 6 ⟨2 * k.val + 1, h⟩) (fun b => by fin_cases b <;> rfl)).symm
  · exact (word_eq arg1.view f1 (k0_off25_eq k) (k0_off25_inb k) (Shape.Idx.first one_pos) (ix2 7 ⟨2 * k.val + 1, h⟩) (fun b => by fin_cases b <;> rfl)).symm
  · exact (word_eq arg1.view f1 (k0_off26_eq k) (k0_off26_inb k) (Shape.Idx.first one_pos) (ix2 8 ⟨2 * k.val + 1, h⟩) (fun b => by fin_cases b <;> rfl)).symm
  · exact (word_eq arg1.view f1 (k0_off27_eq k) (k0_off27_inb k) (Shape.Idx.first one_pos) (ix2 9 ⟨2 * k.val + 1, h⟩) (fun b => by fin_cases b <;> rfl)).symm
  · exact (word_eq arg1.view f1 (k0_off28_eq k) (k0_off28_inb k) (Shape.Idx.first one_pos) (ix2 10 ⟨2 * k.val + 1, h⟩) (fun b => by fin_cases b <;> rfl)).symm
  · exact (word_eq arg1.view f1 (k0_off29_eq k) (k0_off29_inb k) (Shape.Idx.first one_pos) (ix2 11 ⟨2 * k.val + 1, h⟩) (fun b => by fin_cases b <;> rfl)).symm
  · exact (word_eq arg1.view f1 (k0_off30_eq k) (k0_off30_inb k) (Shape.Idx.first one_pos) (ix2 12 ⟨2 * k.val + 1, h⟩) (fun b => by fin_cases b <;> rfl)).symm
  · exact (word_eq arg1.view f1 (k0_off31_eq k) (k0_off31_inb k) (Shape.Idx.first one_pos) (ix2 13 ⟨2 * k.val + 1, h⟩) (fun b => by fin_cases b <;> rfl)).symm
  · exact (word_eq arg1.view f1 (k0_off32_eq k) (k0_off32_inb k) (Shape.Idx.first one_pos) (ix2 14 ⟨2 * k.val + 1, h⟩) (fun b => by fin_cases b <;> rfl)).symm

/-- Row 0 of the pairs' table, as the trip's load reads it. -/
theorem pb0_words (c : Dev nD) (arg2 : Memref sig .tc .smem S2x2048 .f32) (f2 : Bf (F := F) c arg2) (k : Fin k0_t1_loop.trips) (h : k.val < 2048) :
    arg2.view.read (Elt F) f2 (ix2 0 ⟨k.val, h⟩) = arg2.view.readAt (Elt F) (Rect.unit (s := S2x2048) (k0_off1 k) S1x1.size (k0_off1_inb k)).toLoadRect f2 (Shape.Idx.first one_pos) :=
  (word_eq arg2.view f2 (k0_off1_eq k) (k0_off1_inb k) (Shape.Idx.first one_pos) (ix2 0 ⟨k.val, h⟩) (fun b => by fin_cases b <;> rfl)).symm

/-- Row 1 of the pairs' table, as the trip's load reads it. -/
theorem pb1_words (c : Dev nD) (arg2 : Memref sig .tc .smem S2x2048 .f32) (f2 : Bf (F := F) c arg2) (k : Fin k0_t1_loop.trips) (h : k.val < 2048) :
    arg2.view.read (Elt F) f2 (ix2 1 ⟨k.val, h⟩) = arg2.view.readAt (Elt F) (Rect.unit (s := S2x2048) (k0_off2 k) S1x1.size (k0_off2_inb k)).toLoadRect f2 (Shape.Idx.first one_pos) :=
  (word_eq arg2.view f2 (k0_off2_eq k) (k0_off2_inb k) (Shape.Idx.first one_pos) (ix2 1 ⟨k.val, h⟩) (fun b => by fin_cases b <;> rfl)).symm

/-- What the scratch buffers hold. -/
def scrOf (c : Dev nD) {arg5 arg6 arg7 arg8 : Memref sig .tc .vmem S64x512 .f32} (f5 : Bf (F := F) c arg5) (f6 : Bf (F := F) c arg6)
    (f7 : Bf (F := F) c arg7) (f8 : Bf (F := F) c arg8) : Scr F :=
  ⟨arg5.view.read (Elt F) f5, arg6.view.read (Elt F) f6, arg7.view.read (Elt F) f7, arg8.view.read (Elt F) f8⟩

set_option maxHeartbeats 1000000 in
/-- One trip of the loop. -/
theorem trip (c : Dev nD) (i : grid0.Coords) (arg1 : Memref sig .tc .smem S15x4096 .f32) (harg1 : arg1.IsWhole) (arg2 : Memref sig .tc .smem S2x2048 .f32) (harg2 : arg2.IsWhole) (arg3 : Memref sig .tc .vmem S3x64x512 .f32) (harg3 : arg3.IsWhole) (arg4 : Memref sig .tc .vmem S1x1x512 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (v9 : FVec F S64x512 .f32) (v14 : F .f32) (v18 : FVec F S64x512 .f32) (v19 : F .f32)
    (f1 : Bf (F := F) c arg1) (f2 : Bf (F := F) c arg2) (f5 : Bf (F := F) c arg5) (f6 : Bf (F := F) c arg6) (f7 : Bf (F := F) c arg7) (f8 : Bf (F := F) c arg8)
    (k : Fin k0_t1_loop.trips) (acc : Unit) (Q : Unit → sProp 𝕄) :
    iprop(pt c arg1 f1 ∗ pt c arg2 f2 ∗ pt c arg5 f5 ∗ pt c arg6 f6 ∗ pt c arg7 f7 ∗ pt c arg8 f8 ∗
      ((∃ g5 g6 g7 g8, ⌜scrOf c g5 g6 g7 g8 = tripScr (arg1.view.read (Elt F) f1) (arg2.view.read (Elt F) f2) v9 v14 v18 v19 k (scrOf c f5 f6 f7 f8)⌝
        ∗ pt c arg1 f1 ∗ pt c arg2 f2 ∗ pt c arg5 g5 ∗ pt c arg6 g6 ∗ pt c arg7 g7 ∗ pt c arg8 g8) -∗ Q ()))
    ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 v9 v14 v18 v19 k acc) Q := by
  unfold k0_t1_body
  iintro ⟨H1, H2, H5, H6, H7, H8, HQ⟩
  sl_exec_parts
  sl_step
  iapply HQ
  iexists _, _, _, _
  isplitr
  swap
  · isplitl [H1]; · iexact H1
    isplitl [H2]; · iexact H2
    isplitl [H5]; · iexact H5
    isplitl [H6]; · iexact H6
    isplitl [H7]; · iexact H7
    iexact H8
  ipureintro
  sl_unfold_words
  simp only [readCov64, readAt64, View.readCov_full, View.readAt_full, View.readAt_writes_full, pay4_eq, pay5_eq, pay6_eq, pay11_eq, pay12_eq, pay13_eq, pay15_eq]
  by_cases hc : hit v14 v19 (arg2.view.read (Elt F) f2 (ix2 0 ⟨k.val, k.isLt⟩)) (arg2.view.read (Elt F) f2 (ix2 1 ⟨k.val, k.isLt⟩))
  · refine Eq.trans ?_ (if_pos hc).symm
    rw [col_odd, col_even]
    replace hc := (congrArg₂ (hit v14 v19) (pb0_words c arg2 f2 k k.isLt) (pb1_words c arg2 f2 k k.isLt)).mp hc
    refine Scr.ext ?_ ?_ ?_ ?_
    · refine (congrArg (arg5.view.read (Elt F)) (dif_pos hc)).trans ?_
      refine (View.read_writes_full ..).trans ?_
      rfl
    · refine (congrArg (arg6.view.read (Elt F)) (dif_pos hc)).trans ?_
      refine (View.read_writes_full ..).trans ?_
      rfl
    · refine (congrArg (arg7.view.read (Elt F)) (dif_pos hc)).trans ?_
      refine (View.read_writes_full ..).trans ?_
      rfl
    · refine (congrArg (arg8.view.read (Elt F)) (dif_pos hc)).trans ?_
      refine (View.read_writes_full ..).trans ?_
      rfl
  · refine Eq.trans ?_ (if_neg hc).symm
    replace hc := mt (congrArg₂ (hit v14 v19) (pb0_words c arg2 f2 k k.isLt) (pb1_words c arg2 f2 k k.isLt)).mpr hc
    refine Scr.ext ?_ ?_ ?_ ?_
    · exact (congrArg (arg5.view.read (Elt F)) (dif_neg hc))
    · exact (congrArg (arg6.view.read (Elt F)) (dif_neg hc))
    · exact (congrArg (arg7.view.read (Elt F)) (dif_neg hc))
    · exact (congrArg (arg8.view.read (Elt F)) (dif_neg hc))

end Cert.Proof.KernelIdeal

end
-- ==== Proof.KernelIdealRun.lean ====
module

public import proofs.«01_k».proof.Proof.Gen.KernelIdeal.Frame
public import proofs.«01_k».proof.Proof.KernelIdealTrip
public import Idealize.ShloMosaic.Lib.Tactic
public import Idealize.ShloMosaic.Lib.ValueIdxCore
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- The channel of the reference image's block that a load of one of its planes reads. -/
def chan (X : S3x64x512.Idx → F .f32) (off : Fin 3 → ℕ) (inb : ∀ a, off a + S1x64x512.size a ≤ S3x64x512.size a) : Vec F S1x64x512 .f32 :=
  VecWindow.window X off S1x64x512.size inb

/-- The block the body stores at point `i`, of the faces' table, the pairs' table and the block of the reference image. -/
def outVal (cf : S15x4096.Idx → F .f32) (pb : S2x2048.Idx → F .f32) (X : S3x64x512.Idx → F .f32) (i : grid0.Coords) : FVec F S1x1x512 .f32 :=
  let s := scrAt cf pb k0_pay24 (k0_pay25 i) (k0_pay26 i) (k0_pay27 i) 2048
  k0_pay3 s.r (chan X ![0, 0, 0] inb_S3x64x512_S1x64x512_0_0_0) s.g (chan X ![1, 0, 0] inb_S3x64x512_S1x64x512_1_0_0)
    s.b (chan X ![2, 0, 0] inb_S3x64x512_S1x64x512_2_0_0)

/-- Before trip `n` of the loop. -/
def inv (c : Dev nD) (arg1 : Memref sig .tc .smem S15x4096 .f32) (arg2 : Memref sig .tc .smem S2x2048 .f32)
    (arg5 arg6 arg7 arg8 : Memref sig .tc .vmem S64x512 .f32) (v9 : FVec F S64x512 .f32) (v14 : F .f32) (v18 : FVec F S64x512 .f32) (v19 : F .f32)
    (f1 : Bf (F := F) c arg1) (f2 : Bf (F := F) c arg2) (n : ℕ) : sProp 𝕄 :=
  iprop(∃ g5 g6 g7 g8, ⌜scrOf c g5 g6 g7 g8 = scrAt (arg1.view.read (Elt F) f1) (arg2.view.read (Elt F) f2) v9 v14 v18 v19 n⌝
    ∗ pt c arg1 f1 ∗ pt c arg2 f2 ∗ pt c arg5 g5 ∗ pt c arg6 g6 ∗ pt c arg7 g7 ∗ pt c arg8 g8)

theorem inv_step (c : Dev nD) (i : grid0.Coords) (arg1 : Memref sig .tc .smem S15x4096 .f32) (harg1 : arg1.IsWhole) (arg2 : Memref sig .tc .smem S2x2048 .f32) (harg2 : arg2.IsWhole) (arg3 : Memref sig .tc .vmem S3x64x512 .f32) (harg3 : arg3.IsWhole) (arg4 : Memref sig .tc .vmem S1x1x512 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole) (v9 : FVec F S64x512 .f32) (v14 : F .f32) (v18 : FVec F S64x512 .f32) (v19 : F .f32)
    (f1 : Bf (F := F) c arg1) (f2 : Bf (F := F) c arg2) (k : Fin k0_t1_loop.trips) (acc : Unit) :
    inv c arg1 arg2 arg5 arg6 arg7 arg8 v9 v14 v18 v19 f1 f2 k.val
    ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 v9 v14 v18 v19 k acc)
      (fun _ => inv c arg1 arg2 arg5 arg6 arg7 arg8 v9 v14 v18 v19 f1 f2 (k.val + 1)) := by
  unfold inv
  iintro ⟨%g5, %g6, %g7, %g8, %hg, H1, H2, H5, H6, H7, H8⟩
  iapply (trip c i arg1 harg1 arg2 harg2 arg3 harg3 arg4 harg4 arg5 harg5 arg6 harg6 arg7 harg7 arg8 harg8 v9 v14 v18 v19 f1 f2 g5 g6 g7 g8 k acc _)
  isplitl [H1]; · iexact H1
  isplitl [H2]; · iexact H2
  isplitl [H5]; · iexact H5
  isplitl [H6]; · iexact H6
  isplitl [H7]; · iexact H7
  isplitl [H8]; · iexact H8
  iintro ⟨%e5, %e6, %e7, %e8, %he, H1, H2, H5, H6, H7, H8⟩
  iexists e5, e6, e7, e8
  isplitr
  · ipureintro
    rw [he, hg, scrAt, dif_pos (show k.val < 2048 from k.isLt)]
    rfl
  isplitl [H1]; · iexact H1
  isplitl [H2]; · iexact H2
  isplitl [H5]; · iexact H5
  isplitl [H6]; · iexact H6
  isplitl [H7]; · iexact H7
  iexact H8

/-- The body at point `i`: the tables and the image's block are left as they are, and the output block holds `outVal`. -/
theorem kernelRun (c : Dev nD) (i : grid0.Coords) (arg1 : Memref sig .tc .smem S15x4096 .f32) (harg1 : arg1.IsWhole) (arg2 : Memref sig .tc .smem S2x2048 .f32) (harg2 : arg2.IsWhole) (arg3 : Memref sig .tc .vmem S3x64x512 .f32) (harg3 : arg3.IsWhole) (arg4 : Memref sig .tc .vmem S1x1x512 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S64x512 .f32) (harg7 : arg7.IsWhole) (arg8 : Memref sig .tc .vmem S64x512 .f32) (harg8 : arg8.IsWhole)
    (f1 : Bf (F := F) c arg1) (f2 : Bf (F := F) c arg2) (f3 : Bf (F := F) c arg3) (f4 : Bf (F := F) c arg4)
    (f5 : Bf (F := F) c arg5) (f6 : Bf (F := F) c arg6) (f7 : Bf (F := F) c arg7) (f8 : Bf (F := F) c arg8) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗
      ((∃ g4 g5 g6 g7 g8, ⌜arg4.view.read (Elt F) g4 = outVal (arg1.view.read (Elt F) f1) (arg2.view.read (Elt F) f2) (arg3.view.read (Elt F) f3) i⌝
        ∗ pt c arg1 f1 ∗ pt c arg2 f2 ∗ pt c arg3 f3 ∗ pt c arg4 g4 ∗ pt c arg5 g5 ∗ pt c arg6 g6 ∗ pt c arg7 g7 ∗ pt c arg8 g8) -∗ Q ⟨⟩))
    ⊢ wp frame (wpE (defs₀ (F := F)) Variants.none (c : Thread nD τ) none) Set.univ
      (cc0__raster_kernel (F := F) i arg1 harg1 arg2 harg2 arg3 harg3 arg4 harg4 arg5 harg5 arg6 harg6 arg7 harg7 arg8 harg8) Q := by
  rw [cc0__raster_kernel_eq_skeleton]
  unfold cc0__raster_kernel_skel
  iintro ⟨H1, H2, H3, H4, H5, H6, H7, H8, HQ⟩
  sl_exec_parts
  sl_for (fun n (_ : Unit) => inv c arg1 arg2 arg5 arg6 arg7 arg8 k0_pay24 (k0_pay25 i) (k0_pay26 i) (k0_pay27 i) f1 f2 n) $$ [H1 H2 H5 H6 H7 H8]
  case region =>
    intro k acc
    exact inv_step c i arg1 harg1 arg2 harg2 arg3 harg3 arg4 harg4 arg5 harg5 arg6 harg6 arg7 harg7 arg8 harg8 k0_pay24 (k0_pay25 i) (k0_pay26 i) (k0_pay27 i) f1 f2 k acc
  · unfold inv
    iexists _, _, _, _
    isplitr
    swap
    · isplitl [H1]; · iexact H1
      isplitl [H2]; · iexact H2
      isplitl [H5]; · iexact H5
      isplitl [H6]; · iexact H6
      isplitl [H7]; · iexact H7
      iexact H8
    ipureintro
    sl_unfold_words
    refine Scr.ext ?_ ?_ ?_ ?_
    · exact (View.read_writes_full ..).trans rfl
    · exact (View.read_writes_full ..).trans rfl
    · exact (View.read_writes_full ..).trans rfl
    · exact (View.read_writes_full ..).trans rfl
  · iintro %acc HI
    unfold inv
    icases HI with ⟨%g5, %g6, %g7, %g8, %hg, H1, H2, H5, H6, H7, H8⟩
    sl_exec
    sl_step
    iapply HQ
    iexists _, _, _, _, _
    isplitr
    swap
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    ipureintro
    refine (View.read_writes_full ..).trans ?_
    unfold outVal
    rw [show Scf.trips k0_t1_loop.lb k0_t1_loop.ub k0_t1_loop.st = 2048 from rfl] at hg
    rw [← hg]
    unfold scrOf chan
    dsimp only
    rw [← View.readAt_unit arg3.view f3 inb_S3x64x512_S1x64x512_0_0_0 rfl, ← View.readAt_unit arg3.view f3 inb_S3x64x512_S1x64x512_1_0_0 rfl,
      ← View.readAt_unit arg3.view f3 inb_S3x64x512_S1x64x512_2_0_0 rfl]
    have e6 := View.readAt_full arg6.view g6 inb_S64x512_S64x512_0_0
    have e7 := View.readAt_full arg7.view g7 inb_S64x512_S64x512_0_0
    have e8 := View.readAt_full arg8.view g8 inb_S64x512_S64x512_0_0
    rw [e6, e7, e8]

end Cert.Proof.KernelIdeal

end
-- ==== Proof.KernelIdealFrame.lean ====
module

public import proofs.«01_k».proof.Proof.Gen.KernelIdeal.Frame
public import proofs.«01_k».proof.Proof.KernelIdealRun
public import Idealize.ShloMosaic.Lib.Pipeline.Value
public import Idealize.ShloMosaic.Lib.Quiescent
public import Idealize.ShloMosaic.Lib.Tactic
public import Idealize.ShloMosaic.Lib.ValueIdxCore
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open Idealize.ShloMosaic.Pipeline (Dat BodyObligation)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The output block's contents after the body at point `t`. -/
def outAt (c : Dev nD) (t : Fin cfg0.N) : FVec F S1x1x512 .f32 :=
  outVal (iblk m c 0 t) (iblk m c 1 t) (iblk m c 2 t) (grid0.coords t)

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_out (c : Dev nD) (t : Fin cfg0.N) : (dats m 0 c).after 3 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  unfold Pipeline.ΦA Dat.owesAt Pipeline.owesWithin
  rw [scopedRest0_eq, show (dats m 0 c).owed t.castSucc = 0 from rfl, show (dats m 0 c).owed t.succ = 0 from rfl]
  have b0 := before0_0_of m (dats m 0 c) (A_eq m c 0) (after_0 m c) t
  have b1 := before0_1_of m (dats m 0 c) (A_eq m c 1) (after_1 m c) t
  have b2 := before0_2_of m (dats m 0 c) (A_eq m c 2) (after_2 m c) t
  simp only [b0, b1, b2]
  rw [after_0, after_1, after_2, after_out]
  unfold owns
  rw [show (st0_0 t).view.set = Finset.univ from (hstage0_0 ((cfg0.slots t 0).cast nbuf0_0)).set_eq_univ,
    show (st0_1 t).view.set = Finset.univ from (hstage0_1 ((cfg0.slots t 1).cast nbuf0_1)).set_eq_univ,
    show (st0_2 t).view.set = Finset.univ from (hstage0_2 ((cfg0.slots t 2).cast nbuf0_2)).set_eq_univ,
    show (st0_3 t).view.set = Finset.univ from (hstage0_3 ((cfg0.slots t 3).cast nbuf0_3)).set_eq_univ]
  iintro ⟨⟨⟨⟨%f5, H5⟩, ⟨%f6, H6⟩, ⟨%f7, H7⟩, ⟨%f8, H8⟩⟩, Hg⟩, ⟨%W, -, HW⟩, ⟨%d0, %f0, %h0, H0⟩, ⟨%d1, %f1, %h1, H1⟩, ⟨%d2, %f2, %h2, H2⟩, ⟨%d3, %f3, %h3, H3⟩⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f5 f6 f7 f8 _)
  isplitl [H0]; · iexact H0
  isplitl [H1]; · iexact H1
  isplitl [H2]; · iexact H2
  isplitl [H3]; · iexact H3
  isplitl [H5]; · iexact H5
  isplitl [H6]; · iexact H6
  isplitl [H7]; · iexact H7
  isplitl [H8]; · iexact H8
  iintro ⟨%g3, %g5, %g6, %g7, %g8, %hg, H0, H1, H2, H3, H5, H6, H7, H8⟩
  isplitl [H5 H6 H7 H8 Hg]
  · isplitl [H5 H6 H7 H8]
    · isplitl [H5]; · iexists _; iexact H5
      isplitl [H6]; · iexists _; iexact H6
      isplitl [H7]; · iexists _; iexact H7
      iexists _; iexact H8
    iexact Hg
  isplitl [HW]
  · iexists W
    isplitr; · ipureintro; exact fun _ _ => Or.inl trivial
    iexact HW
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  iexists g3; isplitr; swap
  · iexact H3
  ipureintro
  refine hg.trans ?_
  rw [show View.read (Elt F) (win0_0.stage (cfg0.slots t 0)).view f0 = _ from h0, show View.read (Elt F) (win0_1.stage (cfg0.slots t 1)).view f1 = _ from h1,
    show View.read (Elt F) (win0_2.stage (cfg0.slots t 2)).view f2 = _ from h2]
  rfl

/-- The table's row of the body is the kernel at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (fun c => (body_obligation m c).loose) (fun c => (dats m 0 c).share_full fun _ => rfl) (fun _ _ => rfl)
    (V0 m) [hostOps1] sfx_sub sfx_fresh sfx_keeps (hmain m Variants.none) (fun c w => A_eq m c w) (fun _ _ => rfl) _ (fun _ h => h)

/-- The run leaves the arguments as they were and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c)⟩, h.2⟩) (run_main m ρ)

end Cert.Proof.KernelIdeal

end
-- ==== Proof.Raster.lean ====
module

public import Idealize.ShloMosaic.PureOps
public import Idealize.ShloMosaic.Lib.ValueIdxCore

@[expose] public section

noncomputable section

namespace Cert.Proof.Raster

open Idealize.ShloMosaic Idealize.ShloMosaic.ValueIdx

variable {F : FTy → Type} [FloatOps F]

/-- A projected triangle: its three corners on the screen and their depths. -/
structure Tri (F : FTy → Type) where
  x0 : F .f32
  y0 : F .f32
  x1 : F .f32
  y1 : F .f32
  x2 : F .f32
  y2 : F .f32
  z0 : F .f32
  z1 : F .f32
  z2 : F .f32

/-- Face `f` of the projected corners and the depths. -/
def triAt (xy : FVec F ⟨3, ![4096, 3, 2]⟩ .f32) (z : FVec F ⟨2, ![4096, 3]⟩ .f32) (f : Fin 4096) : Tri F where
  x0 := xy (ix3 f 0 0)
  y0 := xy (ix3 f 0 1)
  x1 := xy (ix3 f 1 0)
  y1 := xy (ix3 f 1 1)
  x2 := xy (ix3 f 2 0)
  y2 := xy (ix3 f 2 1)
  z0 := z (ix2 f 0)
  z1 := z (ix2 f 1)
  z2 := z (ix2 f 2)

def cross (ax ay bx bY : F .f32) : F .f32 := FloatOps.subf (FloatOps.mulf ax bY) (FloatOps.mulf ay bx)

namespace Tri

variable (p : Tri F)

/-- Twice the triangle's signed area. -/
def area : F .f32 :=
  cross (FloatOps.subf p.x1 p.x0) (FloatOps.subf p.y1 p.y0) (FloatOps.subf p.x2 p.x0) (FloatOps.subf p.y2 p.y0)

/-- Whether the triangle has an area to speak of. -/
def valid : BitVec 1 := FloatOps.cmpf .ogt (FloatOps.hostAbsf p.area) (FloatOps.ofBits .f32 0x322BCC77#32)

def safe : F .f32 := Scalar.select p.valid p.area (FloatOps.ofBits .f32 0x3F800000#32)

def sgn : F .f32 := FloatOps.hostUnary .sign p.area

/-! The problem's edge functions and depth at a point. -/

def w0 (x y : F .f32) : F .f32 :=
  cross (FloatOps.subf p.x2 p.x1) (FloatOps.subf p.y2 p.y1) (FloatOps.subf x p.x1) (FloatOps.subf y p.y1)

def w1 (x y : F .f32) : F .f32 :=
  cross (FloatOps.subf p.x0 p.x2) (FloatOps.subf p.y0 p.y2) (FloatOps.subf x p.x2) (FloatOps.subf y p.y2)

def w2 (x y : F .f32) : F .f32 :=
  cross (FloatOps.subf p.x1 p.x0) (FloatOps.subf p.y1 p.y0) (FloatOps.subf x p.x0) (FloatOps.subf y p.y0)

def zAt (x y : F .f32) : F .f32 :=
  FloatOps.addf (FloatOps.addf (FloatOps.mulf (FloatOps.hostDivf (p.w0 x y) p.safe) p.z0)
    (FloatOps.mulf (FloatOps.hostDivf (p.w1 x y) p.safe) p.z1))
    (FloatOps.mulf (FloatOps.hostDivf (p.w2 x y) p.safe) p.z2)

def inside (x y : F .f32) : BitVec 1 :=
  IntOp.andi (IntOp.andi (IntOp.andi (FloatOps.cmpf .oge (FloatOps.mulf (p.w0 x y) p.sgn) (FloatOps.ofBits .f32 0x00000000#32))
    (FloatOps.cmpf .oge (FloatOps.mulf (p.w1 x y) p.sgn) (FloatOps.ofBits .f32 0x00000000#32)))
    (FloatOps.cmpf .oge (FloatOps.mulf (p.w2 x y) p.sgn) (FloatOps.ofBits .f32 0x00000000#32))) p.valid

/-- Whether the point is inside the triangle, and the triangle beyond the near plane there. -/
def drawn (x y : F .f32) : BitVec 1 :=
  IntOp.andi (p.inside x y) (FloatOps.cmpf .ogt (p.zAt x y) (FloatOps.ofBits .f32 0x3DCCCCCD#32))

/-- The depth there, far away where the triangle is not drawn. -/
def zm (x y : F .f32) : F .f32 := Scalar.select (p.drawn x y) (p.zAt x y) (FloatOps.ofBits .f32 0x501502F9#32)

/-! The kernel's coefficients. -/

def A0 : F .f32 := FloatOps.hostNegf (FloatOps.subf p.y2 p.y1)
def B0 : F .f32 := FloatOps.subf p.x2 p.x1
def C0 : F .f32 := FloatOps.subf (FloatOps.mulf (FloatOps.subf p.y2 p.y1) p.x1) (FloatOps.mulf (FloatOps.subf p.x2 p.x1) p.y1)
def A1 : F .f32 := FloatOps.hostNegf (FloatOps.subf p.y0 p.y2)
def B1 : F .f32 := FloatOps.subf p.x0 p.x2
def C1 : F .f32 := FloatOps.subf (FloatOps.mulf (FloatOps.subf p.y0 p.y2) p.x2) (FloatOps.mulf (FloatOps.subf p.x0 p.x2) p.y2)
def A2 : F .f32 := FloatOps.hostNegf (FloatOps.subf p.y1 p.y0)
def B2 : F .f32 := FloatOps.subf p.x1 p.x0
def C2 : F .f32 := FloatOps.subf (FloatOps.mulf (FloatOps.subf p.y1 p.y0) p.x0) (FloatOps.mulf (FloatOps.subf p.x1 p.x0) p.y0)

def inv : F .f32 := FloatOps.hostDivf (FloatOps.ofBits .f32 0x3F800000#32) p.safe

def dep (a b c : F .f32) : F .f32 :=
  FloatOps.mulf (FloatOps.addf (FloatOps.addf (FloatOps.mulf a p.z0) (FloatOps.mulf b p.z1)) (FloatOps.mulf c p.z2)) p.inv

def Az : F .f32 := Scalar.select p.valid (p.dep p.A0 p.A1 p.A2) (FloatOps.ofBits .f32 0x00000000#32)
def Bz : F .f32 := Scalar.select p.valid (p.dep p.B0 p.B1 p.B2) (FloatOps.ofBits .f32 0x00000000#32)
def Cz : F .f32 := Scalar.select p.valid (FloatOps.subf (p.dep p.C0 p.C1 p.C2) (FloatOps.ofBits .f32 0x3DCCCCCD#32))
  (FloatOps.ofBits .f32 0xBF800000#32)

/-- The least and the greatest height of a corner. -/
def ymin : F .f32 := FloatOps.minimumf (FloatOps.minimumf p.y0 p.y1) p.y2
def ymax : F .f32 := FloatOps.maximumf (FloatOps.maximumf p.y0 p.y1) p.y2

/-- Column of the kernel's table for this triangle, but for the colours. -/
def coef : Fin 12 → F .f32
  | 0 => FloatOps.mulf p.sgn p.A0
  | 1 => FloatOps.mulf p.sgn p.B0
  | 2 => FloatOps.mulf p.sgn p.C0
  | 3 => FloatOps.mulf p.sgn p.A1
  | 4 => FloatOps.mulf p.sgn p.B1
  | 5 => FloatOps.mulf p.sgn p.C1
  | 6 => FloatOps.mulf p.sgn p.A2
  | 7 => FloatOps.mulf p.sgn p.B2
  | 8 => FloatOps.mulf p.sgn p.C2
  | 9 => p.Az
  | 10 => p.Bz
  | 11 => p.Cz

end Tri

end Cert.Proof.Raster
-- ==== Proof.ReferenceIdealPixel.lean ====
module

public import proofs.«01_k».proof.Proof.Gen.ReferenceIdeal.Read
public import proofs.«01_k».proof.Proof.Raster
public import Idealize.ShloMosaic.Lib.StableHlo.ReadAt
public import Idealize.ShloMosaic.Lib.StableHlo.Predicate
public import proofs.«01_k».proof.Pre_general_position

/-! The reference and the precondition, read at one pixel and one face. -/

@[expose] public section

noncomputable section

namespace Cert.Proof.Raster

open Idealize.ShloMosaic

variable {F : FTy → Type} [FloatOps F]

/-- Across the screen: the centre of pixel column `w`. -/
def xs (w : Fin 512) : F .f32 :=
  FloatOps.subf (FloatOps.hostDivf (FloatOps.mulf (FloatOps.addf (FloatOps.sitofp .f32 (BitVec.ofNat 32 w.val))
    (FloatOps.ofBits .f32 0x3F000000#32)) (FloatOps.ofBits .f32 0x40000000#32)) (FloatOps.ofBits .f32 0x44000000#32))
    (FloatOps.ofBits .f32 0x3F800000#32)

/-- Up the screen: the centre of pixel row `h`. -/
def ys (h : Fin 512) : F .f32 :=
  FloatOps.subf (FloatOps.ofBits .f32 0x3F800000#32)
    (FloatOps.hostDivf (FloatOps.mulf (FloatOps.addf (FloatOps.sitofp .f32 (BitVec.ofNat 32 h.val))
    (FloatOps.ofBits .f32 0x3F000000#32)) (FloatOps.ofBits .f32 0x40000000#32)) (FloatOps.ofBits .f32 0x44000000#32))

/-- The depth of every face at every pixel, far away where it is not drawn. -/
def zmArr (xy : FVec F ⟨3, ![4096, 3, 2]⟩ .f32) (z : FVec F ⟨2, ![4096, 3]⟩ .f32) : FVec F ⟨3, ![512, 512, 4096]⟩ .f32 :=
  fun i => (triAt xy z (i 2)).zm (xs (i 1)) (ys (i 0))

/-- The corners are numbers on the screen. -/
def Tri.finite (p : Tri F) : BitVec 1 :=
  let lt (a : F .f32) : BitVec 1 := FloatOps.cmpf .olt (FloatOps.hostAbsf a) (FloatOps.ofBits .f32 0x7F800000#32)
  IntOp.andi (IntOp.andi (IntOp.andi (IntOp.andi (IntOp.andi
    (lt p.x0) (lt p.y0)) (lt p.x1)) (lt p.y1)) (lt p.x2)) (lt p.y2)

/-- Where the triangle is drawn, the point is on none of its edges, and nearer than the far distance. -/
def Tri.offEdges (p : Tri F) (x y : F .f32) : BitVec 1 :=
  IntOp.ori (~~~(p.drawn x y)) (IntOp.andi (IntOp.andi (IntOp.andi
    (FloatOps.cmpf .une (p.w0 x y) (FloatOps.ofBits .f32 0x00000000#32))
    (FloatOps.cmpf .une (p.w1 x y) (FloatOps.ofBits .f32 0x00000000#32)))
    (FloatOps.cmpf .une (p.w2 x y) (FloatOps.ofBits .f32 0x00000000#32)))
    (FloatOps.cmpf .olt (p.zAt x y) (FloatOps.ofBits .f32 0x501502F9#32)))

end Cert.Proof.Raster

namespace Cert.Proof.Ref
open Idealize.ShloMosaic
open Cert.ReferenceIdeal Cert.ReferenceIdeal.Gen Cert.ReferenceIdeal.Read
open Cert.Proof.Raster (triAt xs ys zmArr)

variable {F : FTy → Type} [FloatOps F]

/-- The least depth at every pixel. -/
def zminArr (A : FVec F S512x512x4096 .f32) : FVec F S512x512 .f32 :=
  Host.reduce FloatOps.minimumf A (constant S_ .f32 0x7F800000#32) reducesTo_S512x512x4096_S512x512_d2 h_S_

/-- At every pixel and face the face's number where its depth is the least, and the last face's elsewhere. -/
def numArr (A : FVec F S512x512x4096 .f32) : IVec S512x512x4096 32 := fun i =>
  Scalar.select (FloatOps.cmpf .oeq (A i) (zminArr A (ValueIdx.ix2 (i 0) (i 1)))) (BitVec.ofNat 32 (i 2).val) 4095#32

/-- The first face of least depth at every pixel. -/
def firstArr (A : FVec F S512x512x4096 .f32) : IVec S512x512 32 :=
  Host.reduce IntOp.minsi (numArr A) (constantI S_ 32 2147483647#32) reducesTo_S512x512x4096_S512x512_d2 h_S_

section
variable (x0 : FVec F S1x2048x3 .f32) (x1 : IVec S1x4096x3 32) (x2 : FVec F S1x4096x2x2x2x3 .f32) (x3 x4 : FVec F S3 .f32)

set_option maxHeartbeats 4000000 in
theorem read_zm (h w : Fin 512) (f : Fin 4096) :
    val_main_v280 (F := F) x0 x1 x3 x4 (ValueIdx.ix3 h w f)
      = (triAt (val_main_v114 (F := F) x0 x1 x3 x4) (val_main_v122 (F := F) x0 x1 x3 x4) f).zm (xs w) (ys h) := by
  simp only [val_main_v123, val_main_cst_7, val_main_v124, val_main_cst_8, val_main_v125, val_main_v126, val_main_v127, val_main_cst_9, val_main_v128, val_main_v129, val_main_cst_10, val_main_v130, val_main_v131, val_main_cst_11, val_main_v132, val_main_v133, val_main_cst_12, val_main_v134, val_main_v135, val_main_v136, val_main_cst_13, val_main_v137, val_main_v138, val_main_cst_14, val_main_v139, val_main_v140, val_main_cst_15, val_main_v141, val_main_v142, val_main_cst_16, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_cst_17, val_main_v167, val_main_v168, val_main_cst_18, val_main_call3_v0, val_main_call3_v1, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_cst_19, val_main_v231, val_main_v232, val_main_v233, val_main_v234, val_main_v235, val_main_cst_20, val_main_v236, val_main_v237, val_main_v238, val_main_v239, val_main_v240, val_main_v241, val_main_cst_21, val_main_v242, val_main_v243, val_main_v244, val_main_v245, val_main_cst_22, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_cst_23, val_main_v277, val_main_v278, val_main_v279, val_main_cst_24, val_main_call4_v0, val_main_call4_v1, val_main_v280]
  pointwise
  rfl

theorem read_zmArr :
    val_main_v280 (F := F) x0 x1 x3 x4
      = zmArr (val_main_v114 (F := F) x0 x1 x3 x4) (val_main_v122 (F := F) x0 x1 x3 x4) := by
  funext i
  rw [ValueIdx.eq_ix3 i]
  exact read_zm x0 x1 x3 x4 _ _ _

theorem read_zmin :
    val_main_v281 (F := F) x0 x1 x3 x4
      = zminArr (zmArr (val_main_v114 (F := F) x0 x1 x3 x4) (val_main_v122 (F := F) x0 x1 x3 x4)) := by
  unfold val_main_v281
  rw [read_zmArr]
  rfl

theorem read_first :
    val_main_v287 (F := F) x0 x1 x3 x4
      = firstArr (zmArr (val_main_v114 (F := F) x0 x1 x3 x4) (val_main_v122 (F := F) x0 x1 x3 x4)) := by
  have e : val_main_v286 (F := F) x0 x1 x3 x4
      = numArr (zmArr (val_main_v114 (F := F) x0 x1 x3 x4) (val_main_v122 (F := F) x0 x1 x3 x4)) := by
    funext i
    rw [ValueIdx.eq_ix3 i]
    simp only [val_main_v286, val_main_v285, val_main_v284, val_main_v283, val_main_v282, val_main_c_26,
      val_main_call5_v0, val_main_call5_v1, val_main_call5_v2]
    rw [read_zmin, read_zmArr]
    pointwise
    rfl
  unfold val_main_v287
  rw [e]
  rfl

/-- The picture before the colours are reversed, at one pixel. -/
theorem read_image (a : Fin 3) (h w : Fin 512) :
    val_main_v301 (F := F) x0 x1 x2 x3 x4 (ValueIdx.ix4 0 a h w)
      = val_main_v298 (F := F) x0 x1 x2 x3 x4 (ValueIdx.ix3 h w a.rev) := by
  simp only [val_main_v301, val_main_v300, val_main_v299]
  pointwise
  rfl

/-- The colours before their axis is moved, at one pixel: the gathered colour where something is drawn, black elsewhere. -/
theorem read_select (h w : Fin 512) (a : Fin 3) :
    val_main_v298 (F := F) x0 x1 x2 x3 x4 (ValueIdx.ix3 h w a)
      = Scalar.select (FloatOps.cmpf .olt (zminArr (zmArr (val_main_v114 (F := F) x0 x1 x3 x4) (val_main_v122 (F := F) x0 x1 x3 x4))
          (ValueIdx.ix2 h w)) (FloatOps.ofBits .f32 0x501502F9#32))
          (val_main_v297 (F := F) x0 x1 x2 x3 x4 (ValueIdx.ix3 h w a)) (FloatOps.ofBits .f32 0x00000000#32) := by
  rw [← read_zmin]
  simp only [val_main_v298, val_main_v290, val_main_v289, val_main_v288, val_main_cst_28, val_main_cst_31, val_main_call6_v0,
    val_main_call6_v1, val_main_call6_v2]
  pointwise
  rfl

/-- A face's number read back. -/
theorem number_back (f : Fin 4096) : min (BitVec.ofNat 32 f.val).toInt.toNat 4095 = f.val := by
  rw [StableHlo.Predicate.toInt_ofNat_small f.val (by omega)]
  omega

theorem number_wrapped (h w : Fin 512) (f : Fin 4096)
    (e : val_main_v287 (F := F) x0 x1 x3 x4 (ValueIdx.ix2 h w) = BitVec.ofNat 32 f.val) :
    val_main_v296 (F := F) x0 x1 x3 x4 (ValueIdx.ix3 h w 0) = BitVec.ofNat 32 f.val := by
  have hn : IntOp.cmpi CmpIPredicate.slt (BitVec.ofNat 32 f.val) 0#32 = 0#1 := by
    have : ¬ (BitVec.ofNat 32 f.val).slt 0#32 = true := by
      rw [BitVec.slt_iff_toInt_lt, StableHlo.Predicate.toInt_ofNat_small f.val (by have := f.isLt; omega)]
      simp
    simp [IntOp.cmpi, this]
  have e' : Scalar.select (IntOp.cmpi .slt (val_main_v287 (F := F) x0 x1 x3 x4 (ValueIdx.ix2 h w)) 0#32)
      (IntOp.addi (val_main_v287 (F := F) x0 x1 x3 x4 (ValueIdx.ix2 h w)) 4096#32)
      (val_main_v287 (F := F) x0 x1 x3 x4 (ValueIdx.ix2 h w)) = BitVec.ofNat 32 f.val := by
    rw [e, hn]
    rfl
  rw [← e']
  simp only [val_main_v296, val_main_v295, val_main_v294, val_main_v293, val_main_v292, val_main_v291, val_main_c_29, val_main_c_30]
  pointwise
  rfl

/-- The gather of a face's colour. -/
theorem gather_colour (x : FVec F S4096x3 .f32) (idx : IVec S512x512x1 32) (h w : Fin 512) (a : Fin 3) :
    Host.gather gather_S4096x3_S512x512x1_S512x512x3_2_0_n_n_0_2_13 x idx (ValueIdx.ix3 h w a)
      = x (ValueIdx.ix2 ⟨min (idx (ValueIdx.ix3 h w 0)).toInt.toNat 4095, by omega⟩ a) := by
  generalize hd : gather_S4096x3_S512x512x1_S512x512x3_2_0_n_n_0_2_13 = d
  have hcoll : d.collapsedSliceDims = [0] := by rw [← hd]; rfl
  have hob : d.operandBatchingDims = [] := by rw [← hd]; rfl
  have hsim : d.startIndexMap = [0] := by rw [← hd]; rfl
  unfold Host.gather
  congr 1
  funext b
  refine Fin.ext ?_
  show d.start (ValueIdx.ix3 h w a) idx b + d.batchCoord (ValueIdx.ix3 h w a) b + d.offCoord (ValueIdx.ix3 h w a) b = _
  rw [GatherDims.batchCoord_eq_zero _ _ _ (by rw [hob]; exact List.not_mem_nil)]
  have hb : b = 0 ∨ b = 1 := by
    match b with
    | ⟨0, _⟩ => exact Or.inl rfl
    | ⟨1, _⟩ => exact Or.inr rfl
  rcases hb with rfl | rfl
  · rw [GatherDims.offCoord_eq_zero _ _ _ (fun h => ((GatherDims.mem_sKept _ _).mp h).1 (by rw [hcoll]; exact List.mem_singleton.mpr rfl))]
    simp only [Nat.add_zero]
    unfold GatherDims.start
    rw [dif_pos (show (0 : Fin 2) ∈ d.startIndexMap from by rw [hsim]; exact List.mem_singleton.mpr rfl)]
    subst hd
    have hsi : gather_S4096x3_S512x512x1_S512x512x3_2_0_n_n_0_2_13.siIdx (ValueIdx.ix3 h w a)
        ⟨List.idxOf (0 : Fin 2) gather_S4096x3_S512x512x1_S512x512x3_2_0_n_n_0_2_13.startIndexMap,
        List.idxOf_lt_length_iff.2 (List.mem_singleton.mpr rfl)⟩ = ValueIdx.ix3 h w 0 := by
      funext b
      refine Fin.ext ?_
      match b with
      | ⟨0, _⟩ => rfl
      | ⟨1, _⟩ => rfl
      | ⟨2, _⟩ => rfl
    rw [hsi]
    rfl
  · have h0 : d.start (ValueIdx.ix3 h w a) idx 1 = 0 := by
      unfold GatherDims.start
      rw [dif_neg (by rw [hsim]; decide)]
    rw [h0]
    subst hd
    show 0 + 0 + GatherDims.offCoord _ _ _ = a.val
    rw [Nat.zero_add]
    rfl

theorem read_gathered (h w : Fin 512) (a : Fin 3) (f : Fin 4096)
    (e : firstArr (zmArr (val_main_v114 (F := F) x0 x1 x3 x4) (val_main_v122 (F := F) x0 x1 x3 x4)) (ValueIdx.ix2 h w)
      = BitVec.ofNat 32 f.val) :
    val_main_v297 (F := F) x0 x1 x2 x3 x4 (ValueIdx.ix3 h w a) = val_main_v126 (F := F) x2 (ValueIdx.ix2 f a) := by
  rw [← read_first] at e
  have e2 : ∀ hh, (⟨min (val_main_v296 (F := F) x0 x1 x3 x4 (ValueIdx.ix3 h w 0)).toInt.toNat 4095, hh⟩ : Fin 4096) = f := fun hh =>
    Fin.ext (by
      show min (val_main_v296 (F := F) x0 x1 x3 x4 (ValueIdx.ix3 h w 0)).toInt.toNat 4095 = f.val
      rw [number_wrapped x0 x1 x3 x4 h w f e]
      exact number_back f)
  unfold val_main_v297
  rw [gather_colour, e2]

end

theorem part9_read [Cert.Pre_general_position.Facts] (v34 : IVec S4096 1) (v96 v115 v134 v184 v188 : FVec F S512x512x4096 .f32)
    (v191 v192 : IVec S512x512x4096 1) (A : FVec F S512x512x4096 .f32) (hA : v188 = A) (h w : Fin 512) (f : Fin 4096) :
    Cert.Pre_general_position.fn_in_general_position_part9 (F := F) v34 v96 v115 v134 v184 v188 v191 v192 (ValueIdx.ix3 h w f)
      = IntOp.andi (IntOp.andi (v34 (ValueIdx.ix1 f)) (IntOp.ori (v192 (ValueIdx.ix3 h w f)) (IntOp.andi (IntOp.andi (IntOp.andi
          (FloatOps.cmpf .une (v96 (ValueIdx.ix3 h w f)) (FloatOps.ofBits .f32 0x00000000#32))
          (FloatOps.cmpf .une (v115 (ValueIdx.ix3 h w f)) (FloatOps.ofBits .f32 0x00000000#32)))
          (FloatOps.cmpf .une (v134 (ValueIdx.ix3 h w f)) (FloatOps.ofBits .f32 0x00000000#32)))
          (FloatOps.cmpf .olt (v184 (ValueIdx.ix3 h w f)) (FloatOps.ofBits .f32 0x501502F9#32)))))
          (IntOp.ori (IntOp.ori (~~~(v191 (ValueIdx.ix3 h w f)))
            (IntOp.cmpi .eq (BitVec.ofNat 32 f.val) (firstArr A (ValueIdx.ix2 h w))))
            (FloatOps.cmpf .ogt (A (ValueIdx.ix3 h w f)) (zminArr A (ValueIdx.ix2 h w)))) := by
  subst hA
  have e : numArr v188 = Cert.Pre_general_position.fn_where_2 (F := F) (cmpf .oeq v188 (broadcastInDim S512x512x4096 ![0, 1, 2]
      Cert.Pre_general_position.Facts.bcast_S512x512x1_S512x512x4096_0_1_2 (broadcastInDim S512x512x1 ![0, 1]
      Cert.Pre_general_position.Facts.bcast_S512x512_S512x512x1_0_1 (zminArr v188)))) (iotaInDim S4096 32 0) (constantI S_ 32 4095#32) := by
    funext i
    rw [ValueIdx.eq_ix3 i]
    unfold Cert.Pre_general_position.fn_where_2
    dsimp only
    pointwise
    rfl
  unfold firstArr
  rw [e]
  unfold Cert.Pre_general_position.fn_in_general_position_part9
  unfold Cert.Pre_general_position.fn_in_general_position_part10
  dsimp only
  pointwise
  rfl

set_option maxHeartbeats 4000000 in
theorem general_read [Cert.Pre_general_position.Facts] (xy : FVec F S4096x3x2 .f32) (z : FVec F S4096x3 .f32) (h w : Fin 512) (f : Fin 4096) :
    Cert.Pre_general_position.fn_in_general_position (F := F) xy z (ValueIdx.ix3 h w f)
      = IntOp.andi (IntOp.andi (triAt xy z f).finite ((triAt xy z f).offEdges (xs w) (ys h)))
          (IntOp.ori (IntOp.ori (~~~((triAt xy z f).drawn (xs w) (ys h)))
            (IntOp.cmpi .eq (BitVec.ofNat 32 f.val) (firstArr (zmArr xy z) (ValueIdx.ix2 h w))))
            (FloatOps.cmpf .ogt ((triAt xy z f).zm (xs w) (ys h)) (zminArr (zmArr xy z) (ValueIdx.ix2 h w)))) := by
  unfold Cert.Pre_general_position.fn_in_general_position
  unfold Cert.Pre_general_position.fn_in_general_position_part1
  unfold Cert.Pre_general_position.fn_in_general_position_part2
  unfold Cert.Pre_general_position.fn_in_general_position_part3
  unfold Cert.Pre_general_position.fn_in_general_position_part4
  unfold Cert.Pre_general_position.fn_in_general_position_part5
  unfold Cert.Pre_general_position.fn_in_general_position_part6
  unfold Cert.Pre_general_position.fn_in_general_position_part7
  unfold Cert.Pre_general_position.fn_in_general_position_part8
  dsimp only
  unfold Cert.Pre_general_position.fn_where Cert.Pre_general_position.fn_where_1
  dsimp only
  refine (part9_read _ _ _ _ _ _ _ _ (zmArr xy z) ?_ h w f).trans ?_
  · funext i
    rw [ValueIdx.eq_ix3 i]
    pointwise
    rfl
  · pointwise
    rfl

end Cert.Proof.Ref
-- ==== Proof.PixelMath.lean ====
module

public import proofs.«01_k».proof.Proof.ReferenceIdealPixel
public import Idealize.ShloMosaic.PureOps.Ideal.Laws

/-! One pixel over the extended reals: the kernel's scaled edge functions decide as the problem's do. -/

@[expose] public section

noncomputable section

namespace Cert.Proof.Pixel

open Idealize.ShloMosaic Cert.Proof.Raster

/-- A triangle of real numbers. -/
abbrev RTri := Tri (fun _ => ℝ)

/-- It among the extended reals. -/
def up (q : RTri) : Tri Ideal where
  x0 := ((q.x0 : ℝ) : EReal)
  y0 := ((q.y0 : ℝ) : EReal)
  x1 := ((q.x1 : ℝ) : EReal)
  y1 := ((q.y1 : ℝ) : EReal)
  x2 := ((q.x2 : ℝ) : EReal)
  y2 := ((q.y2 : ℝ) : EReal)
  z0 := ((q.z0 : ℝ) : EReal)
  z1 := ((q.z1 : ℝ) : EReal)
  z2 := ((q.z2 : ℝ) : EReal)

def crossR (ax ay bx bY : ℝ) : ℝ := ax * bY - ay * bx

def arR (q : RTri) : ℝ := crossR (q.x1 - q.x0) (q.y1 - q.y0) (q.x2 - q.x0) (q.y2 - q.y0)
def w0R (q : RTri) (x y : ℝ) : ℝ := crossR (q.x2 - q.x1) (q.y2 - q.y1) (x - q.x1) (y - q.y1)
def w1R (q : RTri) (x y : ℝ) : ℝ := crossR (q.x0 - q.x2) (q.y0 - q.y2) (x - q.x2) (y - q.y2)
def w2R (q : RTri) (x y : ℝ) : ℝ := crossR (q.x1 - q.x0) (q.y1 - q.y0) (x - q.x0) (y - q.y0)
def sR (q : RTri) : ℝ := (SignType.sign (arR q) : ℝ)
def zR (q : RTri) (x y : ℝ) : ℝ :=
  w0R q x y * (1 / arR q) * q.z0 + w1R q x y * (1 / arR q) * q.z1 + w2R q x y * (1 / arR q) * q.z2

theorem coe_min' (a b : ℝ) : ((min a b : ℝ) : EReal) = min ((a : ℝ) : EReal) ((b : ℝ) : EReal) :=
  EReal.coe_strictMono.monotone.map_min
theorem coe_max' (a b : ℝ) : ((max a b : ℝ) : EReal) = max ((a : ℝ) : EReal) ((b : ℝ) : EReal) :=
  EReal.coe_strictMono.monotone.map_max

/-! The constants. -/

def epsR : ℝ := 11258999 / 2 ^ 50
def nearR : ℝ := 13421773 / 2 ^ 27
def farR : ℝ := 10000000000

theorem eps_eq : (Ideal.ofBits .f32 0x322BCC77#32 : EReal) = ((epsR : ℝ) : EReal) := by
  simp [Ideal.ofBits, Ideal.ieee, epsR, -EReal.coe_mul]; norm_num
theorem near_eq : (Ideal.ofBits .f32 0x3DCCCCCD#32 : EReal) = ((nearR : ℝ) : EReal) := by
  simp [Ideal.ofBits, Ideal.ieee, nearR, -EReal.coe_mul]; norm_num
theorem far_eq : (Ideal.ofBits .f32 0x501502F9#32 : EReal) = ((farR : ℝ) : EReal) := by
  simp [Ideal.ofBits, Ideal.ieee, farR, -EReal.coe_mul]; norm_num
theorem one_eq : (Ideal.ofBits .f32 0x3F800000#32 : EReal) = ((1 : ℝ) : EReal) := by
  simp [Ideal.ofBits, Ideal.ieee, -EReal.coe_mul]; norm_num
theorem negOne_eq : (Ideal.ofBits .f32 0xBF800000#32 : EReal) = ((-1 : ℝ) : EReal) := by
  simp [Ideal.ofBits, Ideal.ieee, -EReal.coe_mul]; norm_num
theorem zero_eq : (Ideal.ofBits .f32 0x00000000#32 : EReal) = ((0 : ℝ) : EReal) := by
  simp [Ideal.ofBits, Ideal.ieee]
theorem inf_eq : (Ideal.ofBits .f32 0x7F800000#32 : EReal) = ⊤ := by
  simp [Ideal.ofBits, Ideal.ieee]

theorem bit_iff (b : Bool) : BitVec.ofBool b = 1#1 ↔ b = true := by cases b <;> simp
theorem and_bit (a b : BitVec 1) : IntOp.andi a b = 1#1 ↔ a = 1#1 ∧ b = 1#1 := by
  revert a b; decide
theorem or_bit (a b : BitVec 1) : IntOp.ori a b = 1#1 ↔ a = 1#1 ∨ b = 1#1 := by
  revert a b; decide
theorem not_bit (a : BitVec 1) : ~~~a = 1#1 ↔ ¬ a = 1#1 := by
  revert a; decide

/-! The problem's functions of real corners. -/

theorem cross_up (a b c d : ℝ) : (cross (F := Ideal) ((a : ℝ) : EReal) ((b : ℝ) : EReal) ((c : ℝ) : EReal) ((d : ℝ) : EReal) : EReal)
    = ((crossR a b c d : ℝ) : EReal) := by
  simp only [cross, Ideal.subf_def, Ideal.mulf_def, ← EReal.coe_mul, ← EReal.coe_sub, crossR]

variable (q : RTri) (x y : ℝ)

theorem area_up : ((up q).area : EReal) = ((arR q : ℝ) : EReal) := by
  simp only [Tri.area, up, Ideal.subf_def, ← EReal.coe_sub]
  exact cross_up ..
theorem w0_up : ((up q).w0 ((x : ℝ) : EReal) ((y : ℝ) : EReal) : EReal) = ((w0R q x y : ℝ) : EReal) := by
  simp only [Tri.w0, up, Ideal.subf_def, ← EReal.coe_sub]
  exact cross_up ..
theorem w1_up : ((up q).w1 ((x : ℝ) : EReal) ((y : ℝ) : EReal) : EReal) = ((w1R q x y : ℝ) : EReal) := by
  simp only [Tri.w1, up, Ideal.subf_def, ← EReal.coe_sub]
  exact cross_up ..
theorem w2_up : ((up q).w2 ((x : ℝ) : EReal) ((y : ℝ) : EReal) : EReal) = ((w2R q x y : ℝ) : EReal) := by
  simp only [Tri.w2, up, Ideal.subf_def, ← EReal.coe_sub]
  exact cross_up ..
theorem sgn_up : ((up q).sgn : EReal) = ((sR q : ℝ) : EReal) := by
  unfold Tri.sgn
  rw [area_up]
  rfl

theorem valid_up : (up q).valid = 1#1 ↔ epsR < |arR q| := by
  unfold Tri.valid
  rw [area_up, Ideal.cmpf_def, Ideal.ofBits_def, eps_eq]
  show BitVec.ofBool (decide (((epsR : ℝ) : EReal) < max ((arR q : ℝ) : EReal) (-((arR q : ℝ) : EReal)))) = 1#1 ↔ _
  rw [bit_iff, decide_eq_true_iff, ← EReal.coe_neg, ← coe_max', EReal.coe_lt_coe_iff]
  rfl

theorem ar_ne (h : (up q).valid = 1#1) : arR q ≠ 0 := by
  rw [valid_up] at h
  intro e
  rw [e, abs_zero] at h
  have : (0 : ℝ) < epsR := by unfold epsR; positivity
  linarith

theorem safe_up (h : (up q).valid = 1#1) : ((up q).safe : EReal) = ((arR q : ℝ) : EReal) := by
  unfold Tri.safe
  rw [h, ← area_up]
  rfl

theorem zAt_up (h : (up q).valid = 1#1) :
    ((up q).zAt ((x : ℝ) : EReal) ((y : ℝ) : EReal) : EReal) = ((zR q x y : ℝ) : EReal) := by
  unfold Tri.zAt
  rw [safe_up q h, w0_up, w1_up, w2_up]
  simp only [Ideal.hostDivf_def, Ideal.div_coe (ar_ne q h), Ideal.addf_def, Ideal.mulf_def]
  simp only [up, ← EReal.coe_mul, ← EReal.coe_add, zR]

theorem edge_up (w : ℝ) : (FloatOps.cmpf (F := Ideal) (φ := .f32) .oge (FloatOps.mulf (F := Ideal) (φ := .f32) ((w : ℝ) : EReal) ((up q).sgn)) (FloatOps.ofBits .f32 0x00000000#32)) = 1#1
    ↔ 0 ≤ w * sR q := by
  rw [sgn_up, Ideal.cmpf_def, Ideal.ofBits_def, zero_eq, Ideal.mulf_def, ← EReal.coe_mul]
  show BitVec.ofBool (decide (((0 : ℝ) : EReal) ≤ ((w * sR q : ℝ) : EReal))) = 1#1 ↔ _
  rw [bit_iff, decide_eq_true_iff, EReal.coe_le_coe_iff]

/-- When a triangle is drawn at a point. -/
theorem drawn_up : (up q).drawn ((x : ℝ) : EReal) ((y : ℝ) : EReal) = 1#1
    ↔ (up q).valid = 1#1 ∧ 0 ≤ w0R q x y * sR q ∧ 0 ≤ w1R q x y * sR q ∧ 0 ≤ w2R q x y * sR q ∧ nearR < zR q x y := by
  unfold Tri.drawn Tri.inside
  simp only [and_bit]
  rw [w0_up, w1_up, w2_up, edge_up, edge_up, edge_up]
  constructor
  · rintro ⟨⟨⟨⟨h0, h1⟩, h2⟩, hv⟩, hz⟩
    refine ⟨hv, h0, h1, h2, ?_⟩
    rw [zAt_up q x y hv, Ideal.cmpf_def, Ideal.ofBits_def, near_eq] at hz
    have : BitVec.ofBool (decide (((nearR : ℝ) : EReal) < ((zR q x y : ℝ) : EReal))) = 1#1 := hz
    rwa [bit_iff, decide_eq_true_iff, EReal.coe_lt_coe_iff] at this
  · rintro ⟨hv, h0, h1, h2, hz⟩
    refine ⟨⟨⟨⟨h0, h1⟩, h2⟩, hv⟩, ?_⟩
    rw [zAt_up q x y hv, Ideal.cmpf_def, Ideal.ofBits_def, near_eq]
    show BitVec.ofBool (decide (((nearR : ℝ) : EReal) < ((zR q x y : ℝ) : EReal))) = 1#1
    rwa [bit_iff, decide_eq_true_iff, EReal.coe_lt_coe_iff]

/-- What the precondition says where the triangle is drawn. -/
theorem offEdges_up (h : (up q).offEdges ((x : ℝ) : EReal) ((y : ℝ) : EReal) = 1#1)
    (hd : (up q).drawn ((x : ℝ) : EReal) ((y : ℝ) : EReal) = 1#1) :
    w0R q x y ≠ 0 ∧ w1R q x y ≠ 0 ∧ w2R q x y ≠ 0 ∧ zR q x y < farR := by
  have hv := ((drawn_up q x y).mp hd).1
  unfold Tri.offEdges at h
  rw [or_bit, not_bit] at h
  rcases h with h | h
  · exact absurd hd h
  · simp only [and_bit] at h
    obtain ⟨⟨⟨h0, h1⟩, h2⟩, hz⟩ := h
    rw [w0_up, Ideal.cmpf_def, Ideal.ofBits_def, zero_eq] at h0
    rw [w1_up, Ideal.cmpf_def, Ideal.ofBits_def, zero_eq] at h1
    rw [w2_up, Ideal.cmpf_def, Ideal.ofBits_def, zero_eq] at h2
    rw [zAt_up q x y hv, Ideal.cmpf_def, Ideal.ofBits_def, far_eq] at hz
    have h0 : BitVec.ofBool (decide (((w0R q x y : ℝ) : EReal) ≠ ((0 : ℝ) : EReal))) = 1#1 := h0
    have h1 : BitVec.ofBool (decide (((w1R q x y : ℝ) : EReal) ≠ ((0 : ℝ) : EReal))) = 1#1 := h1
    have h2 : BitVec.ofBool (decide (((w2R q x y : ℝ) : EReal) ≠ ((0 : ℝ) : EReal))) = 1#1 := h2
    have hz : BitVec.ofBool (decide (((zR q x y : ℝ) : EReal) < ((farR : ℝ) : EReal))) = 1#1 := hz
    rw [bit_iff, decide_eq_true_iff, Ne, EReal.coe_eq_coe_iff] at h0 h1 h2
    rw [bit_iff, decide_eq_true_iff, EReal.coe_lt_coe_iff] at hz
    exact ⟨h0, h1, h2, hz⟩

/-! The kernel's functions. -/

/-- A linear function of the point, in the kernel's order. -/
def lin {F : FTy → Type} [FloatOps F] (x y a b c : F .f32) : F .f32 :=
  FloatOps.addf (FloatOps.mulf x a) (FloatOps.addf (FloatOps.mulf y b) c)

def depth {F : FTy → Type} [FloatOps F] (p : Tri F) (x y : F .f32) : F .f32 := lin x y (p.coef 9) (p.coef 10) (p.coef 11)

/-- Whether the kernel takes a triangle at a point of depth `old`. -/
def takes {F : FTy → Type} [FloatOps F] (p : Tri F) (x y old : F .f32) : BitVec 1 :=
  FloatOps.cmpf .ogt (FloatOps.minimumf (FloatOps.minimumf (FloatOps.minimumf (FloatOps.minimumf
      (lin x y (p.coef 0) (p.coef 1) (p.coef 2)) (lin x y (p.coef 3) (p.coef 4) (p.coef 5)))
      (lin x y (p.coef 6) (p.coef 7) (p.coef 8))) (depth p x y)) (FloatOps.subf old (depth p x y)))
    (FloatOps.ofBits .f32 0x00000000#32)

theorem lin_up (a b c : ℝ) : (lin (F := Ideal) ((x : ℝ) : EReal) ((y : ℝ) : EReal) ((a : ℝ) : EReal) ((b : ℝ) : EReal) ((c : ℝ) : EReal) : EReal)
    = ((x * a + (y * b + c) : ℝ) : EReal) := by
  simp only [lin, Ideal.addf_def, Ideal.mulf_def, ← EReal.coe_mul, ← EReal.coe_add]

theorem lin0_up : (lin (F := Ideal) ((x : ℝ) : EReal) ((y : ℝ) : EReal) ((up q).coef 0) ((up q).coef 1) ((up q).coef 2) : EReal)
    = ((w0R q x y * sR q : ℝ) : EReal) := by
  simp only [Tri.coef, Ideal.mulf_def, sgn_up]
  simp only [Tri.A0, Tri.B0, Tri.C0, up, Ideal.mulf_def, Ideal.hostNegf_def, Ideal.negf_def, Ideal.subf_def, ← EReal.coe_mul, ← EReal.coe_sub, ← EReal.coe_neg]
  rw [lin_up, EReal.coe_eq_coe_iff]
  simp only [w0R, crossR]; ring

theorem lin1_up : (lin (F := Ideal) ((x : ℝ) : EReal) ((y : ℝ) : EReal) ((up q).coef 3) ((up q).coef 4) ((up q).coef 5) : EReal)
    = ((w1R q x y * sR q : ℝ) : EReal) := by
  simp only [Tri.coef, Ideal.mulf_def, sgn_up]
  simp only [Tri.A1, Tri.B1, Tri.C1, up, Ideal.mulf_def, Ideal.hostNegf_def, Ideal.negf_def, Ideal.subf_def, ← EReal.coe_mul, ← EReal.coe_sub, ← EReal.coe_neg]
  rw [lin_up, EReal.coe_eq_coe_iff]
  simp only [w1R, crossR]; ring

theorem lin2_up : (lin (F := Ideal) ((x : ℝ) : EReal) ((y : ℝ) : EReal) ((up q).coef 6) ((up q).coef 7) ((up q).coef 8) : EReal)
    = ((w2R q x y * sR q : ℝ) : EReal) := by
  simp only [Tri.coef, Ideal.mulf_def, sgn_up]
  simp only [Tri.A2, Tri.B2, Tri.C2, up, Ideal.mulf_def, Ideal.hostNegf_def, Ideal.negf_def, Ideal.subf_def, ← EReal.coe_mul, ← EReal.coe_sub, ← EReal.coe_neg]
  rw [lin_up, EReal.coe_eq_coe_iff]
  simp only [w2R, crossR]; ring

theorem inv_up (h : (up q).valid = 1#1) : ((up q).inv : EReal) = ((1 * (1 / arR q) : ℝ) : EReal) := by
  unfold Tri.inv
  rw [safe_up q h, Ideal.hostDivf_def, Ideal.div_coe (ar_ne q h), Ideal.ofBits_def, one_eq, ← EReal.coe_mul]

theorem depth_up (h : (up q).valid = 1#1) :
    (depth (up q) ((x : ℝ) : EReal) ((y : ℝ) : EReal) : EReal) = ((zR q x y - nearR : ℝ) : EReal) := by
  unfold depth
  simp only [Tri.coef, Tri.Az, Tri.Bz, Tri.Cz, h, Tri.dep, inv_up q h]
  simp only [show ∀ a b : EReal, Scalar.select (1#1) a b = a from fun _ _ => rfl]
  simp only [Tri.A0, Tri.B0, Tri.C0, Tri.A1, Tri.B1, Tri.C1, Tri.A2, Tri.B2, Tri.C2, up, Ideal.hostNegf_def, Ideal.negf_def, Ideal.subf_def, Ideal.mulf_def, Ideal.addf_def,
    Ideal.ofBits_def, near_eq, ← EReal.coe_mul, ← EReal.coe_sub, ← EReal.coe_neg, ← EReal.coe_add]
  rw [lin_up, EReal.coe_eq_coe_iff]
  simp only [zR, w0R, w1R, w2R, crossR]; ring

theorem depth_invalid (h : ¬ (up q).valid = 1#1) :
    (depth (up q) ((x : ℝ) : EReal) ((y : ℝ) : EReal) : EReal) = ((-1 : ℝ) : EReal) := by
  have h0 : (up q).valid = 0#1 := by revert h; generalize (up q).valid = b; revert b; decide
  unfold depth
  simp only [Tri.coef, Tri.Az, Tri.Bz, Tri.Cz, h0]
  simp only [show ∀ a b : EReal, Scalar.select (0#1) a b = b from fun _ _ => rfl]
  simp only [Ideal.ofBits_def, zero_eq, negOne_eq]
  rw [lin_up, EReal.coe_eq_coe_iff]
  ring

theorem sub_pos_coe (a : EReal) (r : ℝ) : 0 < a - ((r : ℝ) : EReal) ↔ ((r : ℝ) : EReal) < a := by
  induction a with
  | bot => simp
  | top => simp
  | coe a => rw [← EReal.coe_sub, ← EReal.coe_zero, EReal.coe_lt_coe_iff, EReal.coe_lt_coe_iff, sub_pos]

/-- The kernel takes a triangle just where it is drawn and nearer. -/
theorem takes_iff (h : (up q).offEdges ((x : ℝ) : EReal) ((y : ℝ) : EReal) = 1#1) (old : EReal) :
    takes (F := Ideal) (up q) ((x : ℝ) : EReal) ((y : ℝ) : EReal) old = 1#1
      ↔ (up q).drawn ((x : ℝ) : EReal) ((y : ℝ) : EReal) = 1#1 ∧ (depth (up q) ((x : ℝ) : EReal) ((y : ℝ) : EReal) : EReal) < old := by
  have key : takes (F := Ideal) (up q) ((x : ℝ) : EReal) ((y : ℝ) : EReal) old = 1#1
      ↔ 0 < w0R q x y * sR q ∧ 0 < w1R q x y * sR q ∧ 0 < w2R q x y * sR q
        ∧ (0 : EReal) < depth (up q) ((x : ℝ) : EReal) ((y : ℝ) : EReal)
        ∧ (0 : EReal) < old - depth (up q) ((x : ℝ) : EReal) ((y : ℝ) : EReal) := by
    unfold takes
    rw [lin0_up, lin1_up, lin2_up, Ideal.cmpf_def, Ideal.ofBits_def, zero_eq]
    simp only [Ideal.minimumf_def, Ideal.subf_def, EReal.coe_zero]
    show BitVec.ofBool (decide ((0 : EReal) < _)) = 1#1 ↔ _
    rw [bit_iff, decide_eq_true_iff]
    simp only [lt_min_iff, ← EReal.coe_zero, EReal.coe_lt_coe_iff, and_assoc]
  rw [key]
  by_cases hv : (up q).valid = 1#1
  · rw [depth_up q x y hv, sub_pos_coe, drawn_up]
    constructor
    · rintro ⟨h0, h1, h2, hz, ho⟩
      rw [← EReal.coe_zero, EReal.coe_lt_coe_iff] at hz
      exact ⟨⟨hv, h0.le, h1.le, h2.le, by linarith⟩, ho⟩
    · rintro ⟨⟨_, h0, h1, h2, hz⟩, ho⟩
      obtain ⟨n0, n1, n2, _⟩ := offEdges_up q x y h ((drawn_up q x y).mpr ⟨hv, h0, h1, h2, hz⟩)
      have hs : sR q ≠ 0 := by
        unfold sR
        rcases lt_or_gt_of_ne (ar_ne q hv) with g | g
        · rw [sign_neg g]; simp
        · rw [sign_pos g]; simp
      refine ⟨lt_of_le_of_ne h0 (mul_ne_zero n0 hs).symm, lt_of_le_of_ne h1 (mul_ne_zero n1 hs).symm,
        lt_of_le_of_ne h2 (mul_ne_zero n2 hs).symm, ?_, ho⟩
      rw [← EReal.coe_zero, EReal.coe_lt_coe_iff]
      linarith
  · rw [depth_invalid q x y hv]
    constructor
    · rintro ⟨_, _, _, hz, _⟩
      rw [← EReal.coe_zero, EReal.coe_lt_coe_iff] at hz
      linarith
    · rintro ⟨hd, _⟩
      exact absurd ((drawn_up q x y).mp hd).1 hv

/-- A triangle drawn at a point reaches the point's height. -/
theorem drawn_height (hd : (up q).drawn ((x : ℝ) : EReal) ((y : ℝ) : EReal) = 1#1) :
    ((up q).ymin : EReal) ≤ ((y : ℝ) : EReal) ∧ ((y : ℝ) : EReal) ≤ (up q).ymax := by
  obtain ⟨hv, h0, h1, h2, _⟩ := (drawn_up q x y).mp hd
  have hp : 0 < arR q * sR q := by
    unfold sR
    rcases lt_or_gt_of_ne (ar_ne q hv) with g | g
    · rw [sign_neg g]; simp; linarith
    · rw [sign_pos g]; simpa using g
  have hsum : w0R q x y * sR q + w1R q x y * sR q + w2R q x y * sR q = arR q * sR q := by
    simp only [w0R, w1R, w2R, arR, crossR]; ring
  have hbar : w0R q x y * sR q * q.y0 + w1R q x y * sR q * q.y1 + w2R q x y * sR q * q.y2 = arR q * sR q * y := by
    simp only [w0R, w1R, w2R, arR, crossR]; ring
  generalize w0R q x y * sR q = u0 at *
  generalize w1R q x y * sR q = u1 at *
  generalize w2R q x y * sR q = u2 at *
  generalize arR q * sR q = a at *
  have e1 : ((up q).ymin : EReal) = ((min (min q.y0 q.y1) q.y2 : ℝ) : EReal) := by
    simp only [Tri.ymin, Ideal.minimumf_def, up, ← coe_min']
  have e2 : ((up q).ymax : EReal) = ((max (max q.y0 q.y1) q.y2 : ℝ) : EReal) := by
    simp only [Tri.ymax, Ideal.maximumf_def, up, ← coe_max']
  rw [e1, e2, EReal.coe_le_coe_iff, EReal.coe_le_coe_iff]
  constructor
  · have a0 : min (min q.y0 q.y1) q.y2 ≤ q.y0 := (min_le_left _ _).trans (min_le_left _ _)
    have a1 : min (min q.y0 q.y1) q.y2 ≤ q.y1 := (min_le_left _ _).trans (min_le_right _ _)
    have a2 : min (min q.y0 q.y1) q.y2 ≤ q.y2 := min_le_right _ _
    generalize min (min q.y0 q.y1) q.y2 = l at *
    by_contra hl
    rw [not_le] at hl
    have hm : (u0 + u1 + u2) * l = a * l := by rw [hsum]
    have := mul_le_mul_of_nonneg_left a0 h0
    have := mul_le_mul_of_nonneg_left a1 h1
    have := mul_le_mul_of_nonneg_left a2 h2
    have := mul_lt_mul_of_pos_left hl hp
    nlinarith
  · have a0 : q.y0 ≤ max (max q.y0 q.y1) q.y2 := (le_max_left _ _).trans (le_max_left _ _)
    have a1 : q.y1 ≤ max (max q.y0 q.y1) q.y2 := (le_max_right _ _).trans (le_max_left _ _)
    have a2 : q.y2 ≤ max (max q.y0 q.y1) q.y2 := le_max_right _ _
    generalize max (max q.y0 q.y1) q.y2 = l at *
    by_contra hl
    rw [not_le] at hl
    have hm : (u0 + u1 + u2) * l = a * l := by rw [hsum]
    have := mul_le_mul_of_nonneg_left a0 h0
    have := mul_le_mul_of_nonneg_left a1 h1
    have := mul_le_mul_of_nonneg_left a2 h2
    have := mul_lt_mul_of_pos_left hl hp
    nlinarith

theorem coe_of_finite (a : EReal) (h : (FloatOps.cmpf (F := Ideal) (φ := .f32) .olt (FloatOps.hostAbsf (F := Ideal) (φ := .f32) a) (FloatOps.ofBits .f32 0x7F800000#32)) = 1#1) :
    ∃ r : ℝ, a = ((r : ℝ) : EReal) := by
  rw [Ideal.cmpf_def, Ideal.ofBits_def, inf_eq] at h
  have h : BitVec.ofBool (decide (max a (-a) < ⊤)) = 1#1 := h
  rw [bit_iff, decide_eq_true_iff] at h
  induction a with
  | bot => simp at h
  | top => simp at h
  | coe r => exact ⟨r, rfl⟩

end Cert.Proof.Pixel
-- ==== Proof.FlatTriangle.lean ====
module

public import proofs.«01_k».proof.Proof.PixelMath

/-! A triangle of real corners whose depths are any extended reals: where kernel or reference draws it, its depths are real. -/

@[expose] public section

noncomputable section

namespace Cert.Proof.Pixel

open Idealize.ShloMosaic Cert.Proof.Raster

/-- A real number. -/
def Num (a : EReal) : Prop := ∃ r : ℝ, a = ((r : ℝ) : EReal)

theorem num_of {a : EReal} (h0 : a ≠ ⊥) (h1 : a ≠ ⊤) : Num a := by
  induction a with
  | bot => exact absurd rfl h0
  | top => exact absurd rfl h1
  | coe r => exact ⟨r, rfl⟩

theorem num_add {a b : EReal} (h : Num (a + b)) : Num a ∧ Num b := by
  obtain ⟨r, h⟩ := h
  induction a with
  | bot => simp at h
  | top =>
    induction b with
    | bot => simp at h
    | top => simp at h
    | coe b => simp at h
  | coe a =>
    induction b with
    | bot => simp at h
    | top => simp at h
    | coe b => exact ⟨⟨a, rfl⟩, ⟨b, rfl⟩⟩

theorem num_sub {a : EReal} {r : ℝ} (h : Num (a - ((r : ℝ) : EReal))) : Num a := by
  rw [sub_eq_add_neg] at h
  exact (num_add h).1

theorem num_mul {a : EReal} {r : ℝ} (hr : r ≠ 0) (h : Num (((r : ℝ) : EReal) * a)) : Num a := by
  obtain ⟨s, h⟩ := h
  induction a with
  | bot =>
    rcases lt_or_gt_of_ne hr with g | g
    · rw [EReal.coe_mul_bot_of_neg g] at h; simp at h
    · rw [EReal.coe_mul_bot_of_pos g] at h; simp at h
  | top =>
    rcases lt_or_gt_of_ne hr with g | g
    · rw [EReal.coe_mul_top_of_neg g] at h; simp at h
    · rw [EReal.coe_mul_top_of_pos g] at h; simp at h
  | coe a => exact ⟨a, rfl⟩

/-- Real corners with any depths. -/
def flat (q : RTri) (a b c : EReal) : Tri Ideal := { up q with z0 := a, z1 := b, z2 := c }

def Flat (p : Tri Ideal) : Prop := ∃ q a b c, p = flat q a b c

theorem flat_num (q : RTri) {a b c : EReal} (ha : Num a) (hb : Num b) (hc : Num c) : ∃ q', flat q a b c = up q' := by
  obtain ⟨r, rfl⟩ := ha
  obtain ⟨s, rfl⟩ := hb
  obtain ⟨t, rfl⟩ := hc
  exact ⟨⟨q.x0, q.y0, q.x1, q.y1, q.x2, q.y2, r, s, t⟩, rfl⟩

variable (p : Tri Ideal) (hp : Flat p) (x y : ℝ)

include hp in
/-- Where the reference draws it. -/
theorem num_of_drawn (h : p.offEdges ((x : ℝ) : EReal) ((y : ℝ) : EReal) = 1#1)
    (hd : p.drawn ((x : ℝ) : EReal) ((y : ℝ) : EReal) = 1#1) : ∃ q, p = up q := by
  obtain ⟨q, a, b, c, rfl⟩ := hp
  unfold Tri.offEdges at h
  rw [or_bit, not_bit] at h
  rcases h with h | h
  · exact absurd hd h
  unfold Tri.drawn Tri.inside at hd
  simp only [and_bit] at hd h
  obtain ⟨⟨⟨h0, h1⟩, h2⟩, hfar⟩ := h
  obtain ⟨⟨_, hv⟩, hnear⟩ := hd
  have hv : (up q).valid = 1#1 := hv
  have e0 : ((flat q a b c).w0 ((x : ℝ) : EReal) ((y : ℝ) : EReal) : EReal) = ((w0R q x y : ℝ) : EReal) := w0_up q x y
  have e1 : ((flat q a b c).w1 ((x : ℝ) : EReal) ((y : ℝ) : EReal) : EReal) = ((w1R q x y : ℝ) : EReal) := w1_up q x y
  have e2 : ((flat q a b c).w2 ((x : ℝ) : EReal) ((y : ℝ) : EReal) : EReal) = ((w2R q x y : ℝ) : EReal) := w2_up q x y
  have es : ((flat q a b c).safe : EReal) = ((arR q : ℝ) : EReal) := safe_up q hv
  rw [e0, Ideal.cmpf_def, Ideal.ofBits_def, zero_eq] at h0
  rw [e1, Ideal.cmpf_def, Ideal.ofBits_def, zero_eq] at h1
  rw [e2, Ideal.cmpf_def, Ideal.ofBits_def, zero_eq] at h2
  have h0 : BitVec.ofBool (decide (((w0R q x y : ℝ) : EReal) ≠ ((0 : ℝ) : EReal))) = 1#1 := h0
  have h1 : BitVec.ofBool (decide (((w1R q x y : ℝ) : EReal) ≠ ((0 : ℝ) : EReal))) = 1#1 := h1
  have h2 : BitVec.ofBool (decide (((w2R q x y : ℝ) : EReal) ≠ ((0 : ℝ) : EReal))) = 1#1 := h2
  rw [bit_iff, decide_eq_true_iff, Ne, EReal.coe_eq_coe_iff] at h0 h1 h2
  rw [Ideal.cmpf_def, Ideal.ofBits_def, far_eq] at hfar
  rw [Ideal.cmpf_def, Ideal.ofBits_def, near_eq] at hnear
  have hz : ((flat q a b c).zAt ((x : ℝ) : EReal) ((y : ℝ) : EReal) : EReal)
      = ((w0R q x y * (1 / arR q) : ℝ) : EReal) * a + ((w1R q x y * (1 / arR q) : ℝ) : EReal) * b + ((w2R q x y * (1 / arR q) : ℝ) : EReal) * c := by
    unfold Tri.zAt
    rw [es, e0, e1, e2]
    simp only [Ideal.hostDivf_def, Ideal.div_coe (ar_ne q hv), Ideal.addf_def, Ideal.mulf_def, ← EReal.coe_mul]
    rfl
  rw [hz] at hfar hnear
  have hfar : BitVec.ofBool (decide (_ < ((farR : ℝ) : EReal))) = 1#1 := hfar
  have hnear : BitVec.ofBool (decide (((nearR : ℝ) : EReal) < _)) = 1#1 := hnear
  rw [bit_iff, decide_eq_true_iff] at hfar hnear
  have hn := num_of (ne_bot_of_gt hnear) (ne_top_of_lt hfar)
  have hi : (1 / arR q) ≠ 0 := one_div_ne_zero (ar_ne q hv)
  obtain ⟨hn, n2⟩ := num_add hn
  obtain ⟨n0, n1⟩ := num_add hn
  exact flat_num q (num_mul (mul_ne_zero h0 hi) n0) (num_mul (mul_ne_zero h1 hi) n1) (num_mul (mul_ne_zero h2 hi) n2)

/-- Two numbers not both naught tell that what they scale to numbers is one. -/
theorem num_either {a : EReal} {r s : ℝ} (h : r ≠ 0 ∨ s ≠ 0) (hr : Num (((r : ℝ) : EReal) * a)) (hs : Num (((s : ℝ) : EReal) * a)) : Num a :=
  h.elim (fun g => num_mul g hr) (fun g => num_mul g hs)

include hp in
/-- Where the kernel takes it, off the middle lines of the picture. -/
theorem num_of_takes (hx : x ≠ 0) (hy : y ≠ 0) (old : EReal)
    (h : takes (F := Ideal) p ((x : ℝ) : EReal) ((y : ℝ) : EReal) old = 1#1) : ∃ q, p = up q := by
  obtain ⟨q, a, b, c, rfl⟩ := hp
  unfold takes at h
  rw [Ideal.cmpf_def, Ideal.ofBits_def, zero_eq] at h
  simp only [Ideal.minimumf_def, Ideal.subf_def, EReal.coe_zero] at h
  have h : BitVec.ofBool (decide ((0 : EReal) < _)) = 1#1 := h
  rw [bit_iff, decide_eq_true_iff] at h
  simp only [lt_min_iff] at h
  obtain ⟨⟨_, hz⟩, ho⟩ := h
  have hn : Num (depth (F := Ideal) (flat q a b c) ((x : ℝ) : EReal) ((y : ℝ) : EReal)) := by
    refine num_of (ne_bot_of_gt hz) fun e => ?_
    rw [e] at ho
    simp at ho
  by_cases hv : (up q).valid = 1#1
  · have hv' : (flat q a b c).valid = 1#1 := hv
    have ei : ((flat q a b c).inv : EReal) = ((1 * (1 / arR q) : ℝ) : EReal) := inv_up q hv
    have hi : (1 * (1 / arR q)) ≠ 0 := by rw [one_mul]; exact one_div_ne_zero (ar_ne q hv)
    unfold depth lin at hn
    simp only [Tri.coef, Tri.Az, Tri.Bz, Tri.Cz, hv', Tri.dep, ei] at hn
    simp only [show ∀ a b : EReal, Scalar.select (1#1) a b = a from fun _ _ => rfl] at hn
    simp only [Ideal.addf_def, Ideal.mulf_def] at hn
    obtain ⟨nA, hn⟩ := num_add hn
    obtain ⟨nB, _⟩ := num_add hn
    have nA := num_mul hx nA
    have nB := num_mul hy nB
    rw [mul_comm] at nA nB
    obtain ⟨nA, nA2⟩ := num_add (num_mul hi nA)
    obtain ⟨nA0, nA1⟩ := num_add nA
    obtain ⟨nB, nB2⟩ := num_add (num_mul hi nB)
    obtain ⟨nB0, nB1⟩ := num_add nB
    have a0 : ((flat q a b c).A0 : EReal) = ((-(q.y2 - q.y1) : ℝ) : EReal) := by
      simp only [Tri.A0, flat, up, Ideal.hostNegf_def, Ideal.negf_def, Ideal.subf_def, ← EReal.coe_sub, ← EReal.coe_neg]
    have a1 : ((flat q a b c).A1 : EReal) = ((-(q.y0 - q.y2) : ℝ) : EReal) := by
      simp only [Tri.A1, flat, up, Ideal.hostNegf_def, Ideal.negf_def, Ideal.subf_def, ← EReal.coe_sub, ← EReal.coe_neg]
    have a2 : ((flat q a b c).A2 : EReal) = ((-(q.y1 - q.y0) : ℝ) : EReal) := by
      simp only [Tri.A2, flat, up, Ideal.hostNegf_def, Ideal.negf_def, Ideal.subf_def, ← EReal.coe_sub, ← EReal.coe_neg]
    have b0 : ((flat q a b c).B0 : EReal) = ((q.x2 - q.x1 : ℝ) : EReal) := by
      simp only [Tri.B0, flat, up, Ideal.subf_def, ← EReal.coe_sub]
    have b1 : ((flat q a b c).B1 : EReal) = ((q.x0 - q.x2 : ℝ) : EReal) := by
      simp only [Tri.B1, flat, up, Ideal.subf_def, ← EReal.coe_sub]
    have b2 : ((flat q a b c).B2 : EReal) = ((q.x1 - q.x0 : ℝ) : EReal) := by
      simp only [Tri.B2, flat, up, Ideal.subf_def, ← EReal.coe_sub]
    rw [a0] at nA0
    rw [a1] at nA1
    rw [a2] at nA2
    rw [b0] at nB0
    rw [b1] at nB1
    rw [b2] at nB2
    have har := ar_ne q hv
    unfold arR crossR at har
    refine flat_num q (num_either ?_ nA0 nB0) (num_either ?_ nA1 nB1) (num_either ?_ nA2 nB2)
    · by_contra g
      rw [not_or, not_not, not_not] at g
      refine har ?_
      rw [show q.y2 = q.y1 by linarith [g.1], show q.x2 = q.x1 by linarith [g.2]]
      ring
    · by_contra g
      rw [not_or, not_not, not_not] at g
      refine har ?_
      rw [show q.y2 = q.y0 by linarith [g.1], show q.x2 = q.x0 by linarith [g.2]]
      ring
    · by_contra g
      rw [not_or, not_not, not_not] at g
      refine har ?_
      rw [show q.y1 = q.y0 by linarith [g.1], show q.x1 = q.x0 by linarith [g.2]]
      ring
  · have hv' : ¬ (flat q a b c).valid = 1#1 := hv
    have h0 : (flat q a b c).valid = 0#1 := by revert hv'; generalize (flat q a b c).valid = v; revert v; decide
    have e : (depth (F := Ideal) (flat q a b c) ((x : ℝ) : EReal) ((y : ℝ) : EReal) : EReal) = ((-1 : ℝ) : EReal) := by
      unfold depth
      simp only [Tri.coef, Tri.Az, Tri.Bz, Tri.Cz, h0]
      simp only [show ∀ a b : EReal, Scalar.select (0#1) a b = b from fun _ _ => rfl]
      simp only [Ideal.ofBits_def, zero_eq, negOne_eq]
      rw [lin_up, EReal.coe_eq_coe_iff]
      ring
    rw [e, ← EReal.coe_zero, EReal.coe_lt_coe_iff] at hz
    linarith

include hp in
/-- The kernel takes such a triangle just where it is drawn and nearer. -/
theorem flat_takes (hx : x ≠ 0) (hy : y ≠ 0) (h : p.offEdges ((x : ℝ) : EReal) ((y : ℝ) : EReal) = 1#1) (old : EReal) :
    takes (F := Ideal) p ((x : ℝ) : EReal) ((y : ℝ) : EReal) old = 1#1
      ↔ p.drawn ((x : ℝ) : EReal) ((y : ℝ) : EReal) = 1#1 ∧ (depth (F := Ideal) p ((x : ℝ) : EReal) ((y : ℝ) : EReal) : EReal) < old := by
  constructor
  · intro ht
    obtain ⟨q, rfl⟩ := num_of_takes p hp x y hx hy old ht
    exact (takes_iff q x y h old).mp ht
  · intro hd
    obtain ⟨q, rfl⟩ := num_of_drawn p hp x y h hd.1
    exact (takes_iff q x y h old).mpr hd

include hp in
theorem flat_height (h : p.offEdges ((x : ℝ) : EReal) ((y : ℝ) : EReal) = 1#1) (hd : p.drawn ((x : ℝ) : EReal) ((y : ℝ) : EReal) = 1#1) :
    (p.ymin : EReal) ≤ ((y : ℝ) : EReal) ∧ ((y : ℝ) : EReal) ≤ p.ymax := by
  obtain ⟨q, rfl⟩ := num_of_drawn p hp x y h hd
  exact drawn_height q x y hd

theorem flat_of_finite (p : Tri Ideal) (h : p.finite = 1#1) : Flat p := by
  unfold Tri.finite at h
  simp only [and_bit] at h
  obtain ⟨⟨⟨⟨⟨h0, h1⟩, h2⟩, h3⟩, h4⟩, h5⟩ := h
  obtain ⟨r0, e0⟩ := coe_of_finite _ h0
  obtain ⟨r1, e1⟩ := coe_of_finite _ h1
  obtain ⟨r2, e2⟩ := coe_of_finite _ h2
  obtain ⟨r3, e3⟩ := coe_of_finite _ h3
  obtain ⟨r4, e4⟩ := coe_of_finite _ h4
  obtain ⟨r5, e5⟩ := coe_of_finite _ h5
  obtain ⟨a0, a1, a2, a3, a4, a5, a6, a7, a8⟩ := p
  dsimp only at e0 e1 e2 e3 e4 e5
  subst e0 e1 e2 e3 e4 e5
  exact ⟨⟨r0, r1, r2, r3, r4, r5, 0, 0, 0⟩, a6, a7, a8, rfl⟩

end Cert.Proof.Pixel
-- ==== Proof.KernelIdealPixel.lean ====
module

public import proofs.«01_k».proof.Proof.KernelIdealTrip
public import proofs.«01_k».proof.Proof.FlatTriangle
public import Idealize.ShloMosaic.Lib.StableHlo.ReadAt

/-! The kernel's loop at one pixel: the nearest drawn face stays. -/

@[expose] public section

noncomputable section

namespace Cert.Proof.KernelIdeal

open Cert.KernelIdeal Cert.KernelIdeal.Gen
open Idealize.ShloMosaic Idealize.ShloMosaic.TcCoe
open Cert.Proof.Raster Cert.Proof.Pixel

theorem even_lt {n : ℕ} (h : n < 2048) : 2 * n < 4096 := by omega
theorem odd_lt {n : ℕ} (h : n < 2048) : 2 * n + 1 < 4096 := by omega
theorem row_lt (a : Fin 12) : a.val < 15 := by omega

/-! A list of faces, two by two. -/

section
variable {β : Type} (D : Fin 4096 → Prop) (d : Fin 4096 → EReal) (ink : Fin 4096 → β)

open Classical in
/-- One face drawn over a pixel. -/
def draw (f : Fin 4096) (s : EReal × β) : EReal × β := if D f ∧ d f < s.1 then (d f, ink f) else s

theorem draw_of_not (f : Fin 4096) (s : EReal × β) (h : ¬ D f) : draw D d ink f s = s :=
  if_neg fun g => h g.1

variable (σ : Fin 4096 → Fin 4096) (hσ : Function.Surjective σ) (st : ℕ → EReal × β)
  (hst : ∀ (n : ℕ) (hn : n < 2048), st (n + 1) = draw D d ink (σ ⟨2 * n + 1, odd_lt hn⟩) (draw D d ink (σ ⟨2 * n, even_lt hn⟩) (st n)))

include hst in
/-- Nothing drawn: the pixel stays as it was. -/
theorem stays (h : ∀ f, ¬ D f) : ∀ n ≤ 2048, st n = st 0
  | 0, _ => rfl
  | n + 1, hn => by
    rw [hst n (by omega), draw_of_not _ _ _ _ _ (h _), draw_of_not _ _ _ _ _ (h _)]
    exact stays h n (by omega)

variable (f₀ : Fin 4096) (h₀ : D f₀) (hnear : ∀ f, f ≠ f₀ → D f → d f₀ < d f)

include h₀ hnear in
theorem draw_keeps (f : Fin 4096) (s : EReal × β) (h : s = (d f₀, ink f₀) ∨ d f₀ < s.1) :
    draw D d ink f s = (d f₀, ink f₀) ∨ d f₀ < (draw D d ink f s).1 := by
  unfold draw
  by_cases e : f = f₀
  · subst e
    rcases h with h | h
    · left
      rw [h]
      split <;> rfl
    · left
      rw [if_pos ⟨h₀, h⟩]
  · split
    · rename_i g
      exact Or.inr (hnear f e g.1)
    · exact h

include h₀ in
theorem draw_first (s : EReal × β) (h : s = (d f₀, ink f₀) ∨ d f₀ < s.1) : draw D d ink f₀ s = (d f₀, ink f₀) := by
  unfold draw
  rcases h with h | h
  · rw [h]
    split <;> rfl
  · rw [if_pos ⟨h₀, h⟩]

include hnear in
theorem draw_over (f : Fin 4096) : draw D d ink f (d f₀, ink f₀) = (d f₀, ink f₀) := by
  unfold draw
  by_cases e : f = f₀
  · subst e
    split <;> rfl
  · rw [if_neg]
    rintro ⟨a, b⟩
    exact absurd b (hnear f e a).not_gt

include hσ hst h₀ hnear in
/-- The nearest drawn face stays. -/
theorem nearest_stays (hi : d f₀ < (st 0).1) : st 2048 = (d f₀, ink f₀) := by
  obtain ⟨k, hk⟩ := hσ f₀
  have low : ∀ n ≤ 2048, st n = (d f₀, ink f₀) ∨ d f₀ < (st n).1 := by
    intro n
    induction n with
    | zero => exact fun _ => Or.inr hi
    | succ n ih =>
      intro hn
      rw [hst n (by omega)]
      exact draw_keeps D d ink f₀ h₀ hnear _ _ (draw_keeps D d ink f₀ h₀ hnear _ _ (ih (by omega)))
  have at_k : st (k.val / 2 + 1) = (d f₀, ink f₀) := by
    rw [hst _ (by omega)]
    rcases Nat.mod_two_eq_zero_or_one k.val with e | e
    · have ek : (⟨2 * (k.val / 2), by omega⟩ : Fin 4096) = k := Fin.ext (by show 2 * (k.val / 2) = k.val; omega)
      rw [ek, hk, draw_first D d ink f₀ h₀ _ (low _ (by omega)), draw_over D d ink f₀ hnear]
    · have ek : (⟨2 * (k.val / 2) + 1, by omega⟩ : Fin 4096) = k := Fin.ext (by show 2 * (k.val / 2) + 1 = k.val; omega)
      rw [ek, hk, draw_first D d ink f₀ h₀ _ (draw_keeps D d ink f₀ h₀ hnear _ _ (low _ (by omega)))]
  have after_k : ∀ n, k.val / 2 + 1 ≤ n → n ≤ 2048 → st n = (d f₀, ink f₀) := by
    intro n hn
    induction n, hn using Nat.le_induction with
    | base => exact fun _ => at_k
    | succ n hn ih =>
      intro hn'
      rw [hst n (by omega), ih (by omega), draw_over D d ink f₀ hnear, draw_over D d ink f₀ hnear]
  exact after_k 2048 (by omega) (by omega)

end

/-! The loop's arrays at a pixel. -/

section
variable {F : FTy → Type} [FloatOps F]

/-- A pixel of the scratch arrays: its depth and its colour. -/
def pix (s : Scr F) (r : Fin 64) (w : Fin 512) : F .f32 × F .f32 × F .f32 × F .f32 :=
  (s.z (ValueIdx.ix2 r w), s.r (ValueIdx.ix2 r w), s.g (ValueIdx.ix2 r w), s.b (ValueIdx.ix2 r w))

variable (v9 v18 : FVec F S64x512 .f32) (q : Fin 15 → F .f32) (s : Scr F) (p : Tri F)
  (hq : ∀ a : Fin 12, q ⟨a.val, row_lt a⟩ = p.coef a) (r : Fin 64) (w : Fin 512)

include hq in
theorem face_z : (faceScr v9 v18 q s).z (ValueIdx.ix2 r w)
    = Scalar.select (takes p (v9 (ValueIdx.ix2 r w)) (v18 (ValueIdx.ix2 r w)) (s.z (ValueIdx.ix2 r w)))
        (depth p (v9 (ValueIdx.ix2 r w)) (v18 (ValueIdx.ix2 r w))) (s.z (ValueIdx.ix2 r w)) := by
  unfold takes depth
  simp only [← hq]
  unfold faceScr k0_pay21 k0_pay20 k0_pay19 k0_pay18 k0_pay17 k0_pay16
  dsimp only
  pointwise
  rfl

include hq in
theorem face_r : (faceScr v9 v18 q s).r (ValueIdx.ix2 r w)
    = Scalar.select (takes p (v9 (ValueIdx.ix2 r w)) (v18 (ValueIdx.ix2 r w)) (s.z (ValueIdx.ix2 r w)))
        (q 12) (s.r (ValueIdx.ix2 r w)) := by
  unfold takes depth
  simp only [← hq]
  unfold faceScr k0_pay22 k0_pay20 k0_pay19 k0_pay18 k0_pay17 k0_pay16
  dsimp only
  pointwise
  rfl

include hq in
theorem face_g : (faceScr v9 v18 q s).g (ValueIdx.ix2 r w)
    = Scalar.select (takes p (v9 (ValueIdx.ix2 r w)) (v18 (ValueIdx.ix2 r w)) (s.z (ValueIdx.ix2 r w)))
        (q 13) (s.g (ValueIdx.ix2 r w)) := by
  unfold takes depth
  simp only [← hq]
  unfold faceScr k0_pay23 k0_pay20 k0_pay19 k0_pay18 k0_pay17 k0_pay16
  dsimp only
  pointwise
  rfl

include hq in
theorem face_b : (faceScr v9 v18 q s).b (ValueIdx.ix2 r w)
    = Scalar.select (takes p (v9 (ValueIdx.ix2 r w)) (v18 (ValueIdx.ix2 r w)) (s.z (ValueIdx.ix2 r w)))
        (q 14) (s.b (ValueIdx.ix2 r w)) := by
  unfold takes depth
  simp only [← hq]
  unfold faceScr k0_pay2 k0_pay20 k0_pay19 k0_pay18 k0_pay17 k0_pay16
  dsimp only
  pointwise
  rfl

theorem pix_start (cf : S15x4096.Idx → F .f32) (pb : S2x2048.Idx → F .f32) (v14 v19 : F .f32) :
    pix (scrAt cf pb v9 v14 v18 v19 0) r w
      = (FloatOps.ofBits .f32 0x501502F9#32, FloatOps.ofBits .f32 0x00000000#32, FloatOps.ofBits .f32 0x00000000#32,
          FloatOps.ofBits .f32 0x00000000#32) := by
  unfold pix scrAt k0_pay28 k0_pay29 k0_pay30 k0_pay31 k0_pay1
  dsimp only
  pointwise

end

section
variable (v9 v18 : FVec Ideal S64x512 .f32) (v14 v19 : Ideal .f32) (cf : S15x4096.Idx → Ideal .f32) (pb : S2x2048.Idx → Ideal .f32)
  (σ : Fin 4096 → Fin 4096) (t : Fin 4096 → Tri Ideal) (ink : Fin 4096 → Ideal .f32 × Ideal .f32 × Ideal .f32)
  (hcf : ∀ (a : Fin 12) k, cf (ValueIdx.ix2 ⟨a.val, row_lt a⟩ k) = (t (σ k)).coef a)
  (hink : ∀ k, (cf (ValueIdx.ix2 12 k), cf (ValueIdx.ix2 13 k), cf (ValueIdx.ix2 14 k)) = ink (σ k))
  (h0 : ∀ k : Fin 2048, pb (ValueIdx.ix2 0 k) = FloatOps.minimumf (t (σ ⟨2 * k.val, even_lt k.isLt⟩)).ymin (t (σ ⟨2 * k.val + 1, odd_lt k.isLt⟩)).ymin)
  (h1 : ∀ k : Fin 2048, pb (ValueIdx.ix2 1 k) = FloatOps.maximumf (t (σ ⟨2 * k.val, even_lt k.isLt⟩)).ymax (t (σ ⟨2 * k.val + 1, odd_lt k.isLt⟩)).ymax)
  (r : Fin 64) (w : Fin 512) (x y : ℝ) (hx : v9 (ValueIdx.ix2 r w) = ((x : ℝ) : EReal)) (hy : v18 (ValueIdx.ix2 r w) = ((y : ℝ) : EReal))
  (hhi : ((y : ℝ) : EReal) ≤ v14) (hlo : v19 ≤ ((y : ℝ) : EReal))
  (hx0 : x ≠ 0) (hy0 : y ≠ 0) (hflat : ∀ f, Flat (t f))
  (hoff : ∀ f, (t f).offEdges (F := Ideal) ((x : ℝ) : EReal) ((y : ℝ) : EReal) = 1#1)

/-- The faces drawn at a point, and their depths there as the kernel has them. -/
def isDrawn (f : Fin 4096) : Prop := (t f).drawn (F := Ideal) ((x : ℝ) : EReal) ((y : ℝ) : EReal) = 1#1
def depthAt (f : Fin 4096) : EReal := depth (F := Ideal) (t f) ((x : ℝ) : EReal) ((y : ℝ) : EReal)

include hcf hink hx hy hx0 hy0 hflat hoff in
theorem pix_face (k : Fin 4096) (s : Scr Ideal) :
    pix (faceScr v9 v18 (col cf k) s) r w = draw (isDrawn t x y) (depthAt t x y) ink (σ k) (pix s r w) := by
  have hq : ∀ a : Fin 12, col cf k ⟨a.val, row_lt a⟩ = (t (σ k)).coef a := fun a => hcf a k
  have hi : takes (F := Ideal) (t (σ k)) ((x : ℝ) : EReal) ((y : ℝ) : EReal) (s.z (ValueIdx.ix2 r w)) = 1#1
      ↔ isDrawn t x y (σ k) ∧ depthAt t x y (σ k) < (pix s r w).1 := flat_takes (t (σ k)) (hflat (σ k)) x y hx0 hy0 (hoff (σ k)) (s.z (ValueIdx.ix2 r w))
  unfold pix at hi ⊢
  rw [face_z v9 v18 _ s _ hq, face_r v9 v18 _ s _ hq, face_g v9 v18 _ s _ hq, face_b v9 v18 _ s _ hq, hx, hy]
  unfold draw
  have hk := hink k
  by_cases h : takes (F := Ideal) (t (σ k)) ((x : ℝ) : EReal) ((y : ℝ) : EReal) (s.z (ValueIdx.ix2 r w)) = 1#1
  · rw [h, if_pos (hi.mp h), ← hk]
    rfl
  · have h' : takes (F := Ideal) (t (σ k)) ((x : ℝ) : EReal) ((y : ℝ) : EReal) (s.z (ValueIdx.ix2 r w)) = 0#1 := by
      revert h
      generalize takes (F := Ideal) (t (σ k)) ((x : ℝ) : EReal) ((y : ℝ) : EReal) (s.z (ValueIdx.ix2 r w)) = b
      revert b
      decide
    rw [h', if_neg fun g => h (hi.mpr g)]
    rfl

include h0 h1 hhi hlo hflat hoff in
theorem hit_of_drawn (k : Fin 2048) (h : isDrawn t x y (σ ⟨2 * k.val, even_lt k.isLt⟩) ∨ isDrawn t x y (σ ⟨2 * k.val + 1, odd_lt k.isLt⟩)) :
    hit v14 v19 (pb (ValueIdx.ix2 0 k)) (pb (ValueIdx.ix2 1 k)) := by
  have a0 : (pb (ValueIdx.ix2 0 k) : EReal) ≤ v14 := by
    refine le_trans ?_ hhi
    rw [h0]
    rcases h with h | h
    · exact (min_le_left _ _).trans (flat_height _ (hflat _) x y (hoff _) h).1
    · exact (min_le_right _ _).trans (flat_height _ (hflat _) x y (hoff _) h).1
  have a1 : v19 ≤ (pb (ValueIdx.ix2 1 k) : EReal) := by
    refine le_trans hlo ?_
    rw [h1]
    rcases h with h | h
    · exact (flat_height _ (hflat _) x y (hoff _) h).2.trans (le_max_left _ _)
    · exact (flat_height _ (hflat _) x y (hoff _) h).2.trans (le_max_right _ _)
  unfold hit
  have b0 : Scalar.cmpf (F := Ideal) (φ := .f32) .ole (pb (ValueIdx.ix2 0 k)) v14 = 1#1 := by
    show BitVec.ofBool (decide ((pb (ValueIdx.ix2 0 k) : EReal) ≤ v14)) = 1#1
    rw [bit_iff, decide_eq_true_iff]
    exact a0
  have b1 : Scalar.cmpf (F := Ideal) (φ := .f32) .oge (pb (ValueIdx.ix2 1 k)) v19 = 1#1 := by
    show BitVec.ofBool (decide (v19 ≤ (pb (ValueIdx.ix2 1 k) : EReal))) = 1#1
    rw [bit_iff, decide_eq_true_iff]
    exact a1
  rw [b0, b1]
  decide

include hcf hink h0 h1 hx hy hhi hlo hx0 hy0 hflat hoff in
theorem pix_trip (n : ℕ) (hn : n < 2048) :
    pix (scrAt cf pb v9 v14 v18 v19 (n + 1)) r w
      = draw (isDrawn t x y) (depthAt t x y) ink (σ ⟨2 * n + 1, odd_lt hn⟩)
          (draw (isDrawn t x y) (depthAt t x y) ink (σ ⟨2 * n, even_lt hn⟩) (pix (scrAt cf pb v9 v14 v18 v19 n) r w)) := by
  rw [scrAt, dif_pos hn]
  unfold tripScr
  by_cases hh : hit v14 v19 (pb (ValueIdx.ix2 0 ⟨n, hn⟩)) (pb (ValueIdx.ix2 1 ⟨n, hn⟩))
  · rw [if_pos hh]
    rw [pix_face v9 v18 cf σ t ink hcf hink r w x y hx hy hx0 hy0 hflat hoff, pix_face v9 v18 cf σ t ink hcf hink r w x y hx hy hx0 hy0 hflat hoff]
  · rw [if_neg hh, draw_of_not, draw_of_not]
    · exact fun h => hh (hit_of_drawn v14 v19 pb σ t h0 h1 x y hhi hlo hflat hoff ⟨n, hn⟩ (Or.inl h))
    · exact fun h => hh (hit_of_drawn v14 v19 pb σ t h0 h1 x y hhi hlo hflat hoff ⟨n, hn⟩ (Or.inr h))

end

end Cert.Proof.KernelIdeal
-- ==== Proof.SamePixel.lean ====
module

public import proofs.«01_k».proof.Proof.FlatTriangle
public import proofs.«01_k».proof.Proof.KernelIdealPixel
public import proofs.«01_k».proof.Proof.KernelIdealFrame
public import Idealize.ShloMosaic.Lib.WordArith

/-! Under the precondition each pixel of the reference is one of two cases. -/

@[expose] public section

noncomputable section

namespace Cert.Proof.Ref
open Idealize.ShloMosaic
open Cert.ReferenceIdeal Cert.ReferenceIdeal.Gen
open Cert.Proof.Raster Cert.Proof.Pixel

/-! Real numbers of small integers. -/

theorem sitofp_small (n : ℕ) (hn : n < 4096) : (FloatOps.sitofp (F := Ideal) .f32 (BitVec.ofNat 32 n) : EReal) = (((n : ℝ) : ℝ) : EReal) := by
  show (((BitVec.ofNat 32 n).toInt : ℝ) : EReal) = _
  rw [WordArith.toInt_ofNat_small n (by omega)]
  norm_num

theorem half_eq : Ideal.ofBits .f32 0x3F000000#32 = ((1 / 2 : ℝ) : EReal) := by simp [Ideal.ofBits, Ideal.ieee, -EReal.coe_mul]; norm_num
theorem two_eq : Ideal.ofBits .f32 0x40000000#32 = ((2 : ℝ) : EReal) := by simp [Ideal.ofBits, Ideal.ieee, -EReal.coe_mul]; norm_num
theorem size_eq : Ideal.ofBits .f32 0x44000000#32 = ((512 : ℝ) : EReal) := by simp [Ideal.ofBits, Ideal.ieee, -EReal.coe_mul]; norm_num
theorem step_eq : Ideal.ofBits .f32 0x3B800000#32 = ((1 / 256 : ℝ) : EReal) := by simp [Ideal.ofBits, Ideal.ieee, -EReal.coe_mul]; norm_num
theorem rows_eq : Ideal.ofBits .f32 0x42800000#32 = ((64 : ℝ) : EReal) := by simp [Ideal.ofBits, Ideal.ieee, -EReal.coe_mul]; norm_num
theorem span_eq : Ideal.ofBits .f32 0x3E7C0000#32 = ((63 / 256 : ℝ) : EReal) := by simp [Ideal.ofBits, Ideal.ieee, -EReal.coe_mul]; norm_num

/-- The pixels' coordinates. -/
def xR (w : ℕ) : ℝ := (w + 1 / 2) * (1 / 256) - 1
def yR (h : ℕ) : ℝ := 1 - (h + 1 / 2) * (1 / 256)

theorem xs_real (w : Fin 512) : (xs (F := Ideal) w : EReal) = ((xR w.val : ℝ) : EReal) := by
  unfold xs
  rw [sitofp_small w.val (by omega)]
  simp only [Ideal.addf_def, Ideal.subf_def, Ideal.mulf_def, Ideal.hostDivf_def, Ideal.ofBits_def, half_eq, two_eq, size_eq, one_eq]
  rw [Ideal.div_coe (by norm_num), ← EReal.coe_add, ← EReal.coe_mul, ← EReal.coe_mul, ← EReal.coe_sub]
  congr 1
  unfold xR
  ring

theorem ys_real (h : Fin 512) : (ys (F := Ideal) h : EReal) = ((yR h.val : ℝ) : EReal) := by
  unfold ys
  rw [sitofp_small h.val (by omega)]
  simp only [Ideal.addf_def, Ideal.subf_def, Ideal.mulf_def, Ideal.hostDivf_def, Ideal.ofBits_def, half_eq, two_eq, size_eq, one_eq]
  rw [Ideal.div_coe (by norm_num), ← EReal.coe_add, ← EReal.coe_mul, ← EReal.coe_mul, ← EReal.coe_sub]
  congr 1
  unfold yR
  ring

theorem xR_ne (w : ℕ) : xR w ≠ 0 := by
  unfold xR
  intro e
  have e : ((2 * w + 1 : ℕ) : ℝ) = ((512 : ℕ) : ℝ) := by push_cast; linarith
  have := Nat.cast_injective e
  omega

theorem yR_ne (h : ℕ) : yR h ≠ 0 := by
  unfold yR
  intro e
  have e : ((2 * h + 1 : ℕ) : ℝ) = ((512 : ℕ) : ℝ) := by push_cast; linarith
  have := Nat.cast_injective e
  omega

theorem drop_pixel (i : S512x512x4096.Idx) :
    (reducesTo_S512x512x4096_S512x512_d2 : S512x512x4096.ReducesTo [2] S512x512).drop i = ValueIdx.ix2 (i 0) (i 1) := by
  funext b
  refine Fin.ext ?_
  match b with
  | ⟨0, _⟩ => rfl
  | ⟨1, _⟩ => rfl

theorem fold_min_le {ι : Type} (g : ι → EReal) (l : List ι) : ∀ (a : EReal),
    l.foldl (fun r n => min r (g n)) a ≤ a ∧ ∀ n ∈ l, l.foldl (fun r n => min r (g n)) a ≤ g n := by
  induction l with
  | nil => exact fun a => ⟨le_rfl, fun n hn => absurd hn List.not_mem_nil⟩
  | cons b l ih =>
    intro a
    have h := ih (min a (g b))
    refine ⟨h.1.trans (min_le_left _ _), fun n hn => ?_⟩
    rcases List.mem_cons.mp hn with rfl | hn
    · exact h.1.trans (min_le_right _ _)
    · exact h.2 n hn

theorem fold_min_mem {ι : Type} (g : ι → EReal) (l : List ι) : ∀ (a : EReal),
    l.foldl (fun r n => min r (g n)) a = a ∨ ∃ n ∈ l, l.foldl (fun r n => min r (g n)) a = g n := by
  induction l with
  | nil => exact fun a => Or.inl rfl
  | cons b l ih =>
    intro a
    rcases ih (min a (g b)) with h | ⟨n, hn, h⟩
    · rcases min_choice a (g b) with e | e
      · left
        show l.foldl _ (min a (g b)) = a
        rw [h, e]
      · right
        refine ⟨b, List.mem_cons_self, ?_⟩
        show l.foldl _ (min a (g b)) = g b
        rw [h, e]
    · exact Or.inr ⟨n, List.mem_cons_of_mem _ hn, h⟩

variable (A : FVec Ideal S512x512x4096 .f32) (h w : Fin 512)

theorem zmin_le (f : Fin 4096) : (zminArr A (ValueIdx.ix2 h w) : EReal) ≤ A (ValueIdx.ix3 h w f) := by
  have := (fold_min_le (fun n => (A (S512x512x4096.rowMajor.symm n) : EReal))
    ((List.finRange S512x512x4096.numel).filter fun n => (reducesTo_S512x512x4096_S512x512_d2 : S512x512x4096.ReducesTo [2] S512x512).drop
      (S512x512x4096.rowMajor.symm n) = ValueIdx.ix2 h w) (Ideal.ofBits .f32 0x7F800000#32)).2 (S512x512x4096.rowMajor (ValueIdx.ix3 h w f))
    (by
      rw [List.mem_filter]
      refine ⟨List.mem_finRange _, ?_⟩
      rw [Equiv.symm_apply_apply]
      exact decide_eq_true (drop_pixel _))
  rw [Equiv.symm_apply_apply] at this
  exact this

theorem zmin_mem (hlt : (zminArr A (ValueIdx.ix2 h w) : EReal) < ⊤) :
    ∃ f : Fin 4096, (zminArr A (ValueIdx.ix2 h w) : EReal) = A (ValueIdx.ix3 h w f) := by
  rcases fold_min_mem (fun n => (A (S512x512x4096.rowMajor.symm n) : EReal))
    ((List.finRange S512x512x4096.numel).filter fun n => (reducesTo_S512x512x4096_S512x512_d2 : S512x512x4096.ReducesTo [2] S512x512).drop
      (S512x512x4096.rowMajor.symm n) = ValueIdx.ix2 h w) (Ideal.ofBits .f32 0x7F800000#32) with e | ⟨n, hn, e⟩
  · have e : (zminArr A (ValueIdx.ix2 h w) : EReal) = Ideal.ofBits .f32 0x7F800000#32 := e
    rw [inf_eq] at e
    exact absurd hlt (by rw [e]; exact lt_irrefl _)
  · rw [List.mem_filter] at hn
    have hd := of_decide_eq_true hn.2
    generalize S512x512x4096.rowMajor.symm n = i at hd e
    have hi : i = ValueIdx.ix3 h w (i 2) := by
      rw [drop_pixel] at hd
      have a0 : i 0 = h := congrFun hd 0
      have a1 : i 1 = w := congrFun hd 1
      rw [← a0, ← a1]
      exact ValueIdx.eq_ix3 i
    exact ⟨i 2, e.trans (congrArg (fun k => (A k : EReal)) hi)⟩

theorem ofNat_inj {a b : ℕ} (ha : a < 4096) (hb : b < 4096) (e : BitVec.ofNat 32 a = BitVec.ofNat 32 b) : a = b := by
  have e := congrArg BitVec.toNat e
  rw [BitVec.toNat_ofNat, BitVec.toNat_ofNat] at e
  omega

theorem ogt_bit (a b : EReal) : FloatOps.cmpf (F := Ideal) (φ := .f32) .ogt a b = 1#1 ↔ b < a := by
  show BitVec.ofBool (decide (b < a)) = 1#1 ↔ _
  rw [bit_iff, decide_eq_true_iff]

theorem olt_bit (a b : EReal) : FloatOps.cmpf (F := Ideal) (φ := .f32) .olt a b = 1#1 ↔ a < b := by
  show BitVec.ofBool (decide (a < b)) = 1#1 ↔ _
  rw [bit_iff, decide_eq_true_iff]

/-! The precondition at a pixel. -/

section
variable (xy : FVec Ideal S4096x3x2 .f32) (z : FVec Ideal S4096x3 .f32)
  (hgen : ∀ f : Fin 4096, IntOp.andi (IntOp.andi (triAt xy z f).finite ((triAt xy z f).offEdges (xs w) (ys h)))
          (IntOp.ori (IntOp.ori (~~~((triAt xy z f).drawn (xs w) (ys h)))
            (IntOp.cmpi .eq (BitVec.ofNat 32 f.val) (firstArr (zmArr xy z) (ValueIdx.ix2 h w))))
            (FloatOps.cmpf .ogt ((triAt xy z f).zm (xs w) (ys h)) (zminArr (zmArr xy z) (ValueIdx.ix2 h w)))) = 1#1)
  (x y : ℝ) (hx : (xs (F := Ideal) w : EReal) = ((x : ℝ) : EReal)) (hy : (ys (F := Ideal) h : EReal) = ((y : ℝ) : EReal))
  (t : Fin 4096 → Tri Ideal) (ht : ∀ f, triAt xy z f = t f) (hflat : ∀ f, Flat (t f))

theorem select_one {a b : EReal} {c : BitVec 1} (h : c = 1#1) : Scalar.select c a b = a := by rw [h]; rfl
theorem select_not {a b : EReal} {c : BitVec 1} (h : ¬ c = 1#1) : Scalar.select c a b = b := by
  have h0 : c = 0#1 := by revert h; revert c; decide
  rw [h0]; rfl

/-- The depth where a triangle is drawn is a number, less than the far distance, and the kernel's is it less the near one. -/
theorem zm_drawn (p : Tri Ideal) (hp : Flat p) (ho : p.offEdges (F := Ideal) ((x : ℝ) : EReal) ((y : ℝ) : EReal) = 1#1) (hd : p.drawn (F := Ideal) ((x : ℝ) : EReal) ((y : ℝ) : EReal) = 1#1) :
    ∃ r : ℝ, (p.zm (F := Ideal) ((x : ℝ) : EReal) ((y : ℝ) : EReal) : EReal) = ((r : ℝ) : EReal) ∧ r < farR
      ∧ (depth (F := Ideal) p ((x : ℝ) : EReal) ((y : ℝ) : EReal) : EReal) = ((r - nearR : ℝ) : EReal) := by
  obtain ⟨q, rfl⟩ := num_of_drawn p hp x y ho hd
  have hv := ((drawn_up q x y).mp hd).1
  refine ⟨zR q x y, ?_, (offEdges_up q x y ho hd).2.2.2, depth_up q x y hv⟩
  unfold Tri.zm
  rw [select_one hd, zAt_up q x y hv]

theorem zm_not (p : Tri Ideal) (hd : ¬ p.drawn (F := Ideal) ((x : ℝ) : EReal) ((y : ℝ) : EReal) = 1#1) : (p.zm (F := Ideal) ((x : ℝ) : EReal) ((y : ℝ) : EReal) : EReal) = ((farR : ℝ) : EReal) := by
  unfold Tri.zm
  rw [select_not hd, Ideal.ofBits_def, far_eq]

include hgen hx hy ht in
theorem off_at (f : Fin 4096) : (t f).offEdges (F := Ideal) ((x : ℝ) : EReal) ((y : ℝ) : EReal) = 1#1 := by
  have g := hgen f
  rw [ht, hx, hy] at g
  exact ((and_bit _ _).mp ((and_bit _ _).mp g).1).2

include hgen hx hy ht hflat in
/-- Something is drawn at the pixel: the first nearest face is drawn, and every other drawn one is farther. -/
theorem case_drawn (hlt : (zminArr (zmArr xy z) (ValueIdx.ix2 h w) : EReal) < ((farR : ℝ) : EReal)) :
    ∃ f₀ : Fin 4096, firstArr (zmArr xy z) (ValueIdx.ix2 h w) = BitVec.ofNat 32 f₀.val
      ∧ (t f₀).drawn (F := Ideal) ((x : ℝ) : EReal) ((y : ℝ) : EReal) = 1#1
      ∧ (∀ f, f ≠ f₀ → (t f).drawn (F := Ideal) ((x : ℝ) : EReal) ((y : ℝ) : EReal) = 1#1 →
          (depth (F := Ideal) (t f₀) ((x : ℝ) : EReal) ((y : ℝ) : EReal) : EReal) < depth (F := Ideal) (t f) ((x : ℝ) : EReal) ((y : ℝ) : EReal))
      ∧ (depth (F := Ideal) (t f₀) ((x : ℝ) : EReal) ((y : ℝ) : EReal) : EReal) < ((farR : ℝ) : EReal) := by
  have off := off_at h w xy z hgen x y hx hy t ht
  have hz : ∀ f, (zmArr xy z (ValueIdx.ix3 h w f) : EReal) = (t f).zm (F := Ideal) ((x : ℝ) : EReal) ((y : ℝ) : EReal) := by
    intro f
    show ((triAt xy z f).zm (xs w) (ys h) : EReal) = _
    rw [ht, hx, hy]
  have near : ∀ f, (t f).drawn (F := Ideal) ((x : ℝ) : EReal) ((y : ℝ) : EReal) = 1#1 →
      BitVec.ofNat 32 f.val = firstArr (zmArr xy z) (ValueIdx.ix2 h w)
        ∨ (zminArr (zmArr xy z) (ValueIdx.ix2 h w) : EReal) < (t f).zm (F := Ideal) ((x : ℝ) : EReal) ((y : ℝ) : EReal) := by
    intro f hd
    have g := hgen f
    rw [ht, hx, hy] at g
    have g := ((and_bit _ _).mp g).2
    rw [or_bit, or_bit, not_bit] at g
    rcases g with (g | g) | g
    · exact absurd hd g
    · left
      have g : BitVec.ofBool (decide (BitVec.ofNat 32 f.val = firstArr (zmArr xy z) (ValueIdx.ix2 h w))) = 1#1 := g
      rwa [bit_iff, decide_eq_true_iff] at g
    · right
      exact (ogt_bit _ _).mp g
  obtain ⟨f₀, e₀⟩ := zmin_mem (zmArr xy z) h w (hlt.trans (EReal.coe_lt_top _))
  rw [hz] at e₀
  have hd₀ : (t f₀).drawn (F := Ideal) ((x : ℝ) : EReal) ((y : ℝ) : EReal) = 1#1 := by
    by_contra hn
    rw [e₀, zm_not x y _ hn] at hlt
    exact lt_irrefl _ hlt
  obtain ⟨r₀, z₀, far₀, dep₀⟩ := zm_drawn x y _ (hflat f₀) (off f₀) hd₀
  have j₀ : BitVec.ofNat 32 f₀.val = firstArr (zmArr xy z) (ValueIdx.ix2 h w) := by
    rcases near f₀ hd₀ with g | g
    · exact g
    · rw [e₀] at g
      exact absurd g (lt_irrefl _)
  refine ⟨f₀, j₀.symm, hd₀, fun f hne hd => ?_, ?_⟩
  · obtain ⟨r, z₁, _, dep₁⟩ := zm_drawn x y _ (hflat f) (off f) hd
    rcases near f hd with g | g
    · refine absurd (Fin.ext ?_) hne
      exact ofNat_inj f.isLt f₀.isLt (g.trans j₀.symm)
    · rw [e₀, z₀, z₁, EReal.coe_lt_coe_iff] at g
      rw [dep₀, dep₁, EReal.coe_lt_coe_iff]
      linarith
  · rw [dep₀, EReal.coe_lt_coe_iff]
    have : (0 : ℝ) < nearR := by unfold nearR; norm_num
    linarith

include hgen hx hy ht hflat in
/-- Nothing is drawn at the pixel otherwise. -/
theorem case_empty (hlt : ¬ (zminArr (zmArr xy z) (ValueIdx.ix2 h w) : EReal) < ((farR : ℝ) : EReal)) (f : Fin 4096) :
    ¬ (t f).drawn (F := Ideal) ((x : ℝ) : EReal) ((y : ℝ) : EReal) = 1#1 := by
  intro hd
  obtain ⟨r, z₁, far₁, _⟩ := zm_drawn x y _ (hflat f) (off_at h w xy z hgen x y hx hy t ht f) hd
  refine hlt (lt_of_le_of_lt (zmin_le (zmArr xy z) h w f) ?_)
  show ((triAt xy z f).zm (xs w) (ys h) : EReal) < _
  rw [ht, hx, hy, z₁, EReal.coe_lt_coe_iff]
  exact far₁

end

end Cert.Proof.Ref
-- ==== Proof.KernelIdealHost.lean ====
module

public import proofs.«01_k».proof.Proof.KernelIdealFrame
public import proofs.«01_k».proof.Proof.Raster
public import Idealize.ShloMosaic.Lib.SortFacts
public import Idealize.ShloMosaic.Lib.StableHlo.ReadAt

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.StableHlo

variable {F : FTy → Type} [FloatOps F]
variable (m : (ℓ : Loc nD τ sig) → Buf (Elt F) ℓ)

/-- The host's operations as far as the faces' corners, depths and colours. -/
def cornerOps : List (HloOp τ sig (Elt F)) :=
  List.flatten [hostOps0, hostOps0_1, hostOps0_2, hostOps0_3, hostOps0_4, hostOps0_5, hostOps0_6, hostOps0_7, hostOps0_8]
    ++ hostOps0_9.take 48

/-- The operations from there to the faces' order. -/
def faceOps : List (HloOp τ sig (Elt F)) :=
  hostOps0_9.drop 48 ++ List.flatten [hostOps0_10, hostOps0_11, hostOps0_12, hostOps0_13, hostOps0_14, hostOps0_15,
    hostOps0_16, hostOps0_17, hostOps0_18]

/-- What the buffers hold once the corners, depths and colours stand. -/
def U (c : Dev nD) : Valuation τ sig (Elt F) := after cornerOps (fun b => m (c, b))

/-- What they hold once the faces' order stands too. -/
def W (c : Dev nD) : Valuation τ sig (Elt F) := after faceOps (U m c)

theorem V0_eq (c : Dev nD) : V0 m c = after hostOps0_19 (W m c) := by
  unfold W U
  rw [← after_append, ← after_append]
  rfl

/-- Face `f`'s corners and depths, as the host's operations leave them. -/
def face (c : Dev nD) (f : Fin 4096) : Raster.Tri F :=
  Raster.triAt (U m c (Proc.devRef .tc main_v46)) (U m c (Proc.devRef .tc main_v54)) f

set_option maxHeartbeats 4000000 in
theorem read_row0 (c : Dev nD) (k : Fin 4096) :
    W m c (Proc.devRef .tc main_v180) (ValueIdx.ix2 0 k) = (face m c k).coef 0 := by
  unfold W faceOps
  simp only [List.drop]
  after_reads_at
  after_reads_at
  rfl

set_option maxHeartbeats 4000000 in
theorem read_row1 (c : Dev nD) (k : Fin 4096) :
    W m c (Proc.devRef .tc main_v180) (ValueIdx.ix2 1 k) = (face m c k).coef 1 := by
  unfold W faceOps
  simp only [List.drop]
  after_reads_at
  after_reads_at
  rfl

set_option maxHeartbeats 4000000 in
theorem read_row2 (c : Dev nD) (k : Fin 4096) :
    W m c (Proc.devRef .tc main_v180) (ValueIdx.ix2 2 k) = (face m c k).coef 2 := by
  unfold W faceOps
  simp only [List.drop]
  after_reads_at
  after_reads_at
  rfl

set_option maxHeartbeats 4000000 in
theorem read_row3 (c : Dev nD) (k : Fin 4096) :
    W m c (Proc.devRef .tc main_v180) (ValueIdx.ix2 3 k) = (face m c k).coef 3 := by
  unfold W faceOps
  simp only [List.drop]
  after_reads_at
  after_reads_at
  rfl

set_option maxHeartbeats 4000000 in
theorem read_row4 (c : Dev nD) (k : Fin 4096) :
    W m c (Proc.devRef .tc main_v180) (ValueIdx.ix2 4 k) = (face m c k).coef 4 := by
  unfold W faceOps
  simp only [List.drop]
  after_reads_at
  after_reads_at
  rfl

set_option maxHeartbeats 4000000 in
theorem read_row5 (c : Dev nD) (k : Fin 4096) :
    W m c (Proc.devRef .tc main_v180) (ValueIdx.ix2 5 k) = (face m c k).coef 5 := by
  unfold W faceOps
  simp only [List.drop]
  after_reads_at
  after_reads_at
  rfl

set_option maxHeartbeats 4000000 in
theorem read_row6 (c : Dev nD) (k : Fin 4096) :
    W m c (Proc.devRef .tc main_v180) (ValueIdx.ix2 6 k) = (face m c k).coef 6 := by
  unfold W faceOps
  simp only [List.drop]
  after_reads_at
  after_reads_at
  rfl

set_option maxHeartbeats 4000000 in
theorem read_row7 (c : Dev nD) (k : Fin 4096) :
    W m c (Proc.devRef .tc main_v180) (ValueIdx.ix2 7 k) = (face m c k).coef 7 := by
  unfold W faceOps
  simp only [List.drop]
  after_reads_at
  after_reads_at
  rfl

set_option maxHeartbeats 4000000 in
theorem read_row8 (c : Dev nD) (k : Fin 4096) :
    W m c (Proc.devRef .tc main_v180) (ValueIdx.ix2 8 k) = (face m c k).coef 8 := by
  unfold W faceOps
  simp only [List.drop]
  after_reads_at
  after_reads_at
  rfl

set_option maxHeartbeats 4000000 in
theorem read_row9 (c : Dev nD) (k : Fin 4096) :
    W m c (Proc.devRef .tc main_v180) (ValueIdx.ix2 9 k) = (face m c k).coef 9 := by
  unfold W faceOps
  simp only [List.drop]
  after_reads_at
  after_reads_at
  rfl

set_option maxHeartbeats 4000000 in
theorem read_row10 (c : Dev nD) (k : Fin 4096) :
    W m c (Proc.devRef .tc main_v180) (ValueIdx.ix2 10 k) = (face m c k).coef 10 := by
  unfold W faceOps
  simp only [List.drop]
  after_reads_at
  after_reads_at
  rfl

set_option maxHeartbeats 4000000 in
theorem read_row11 (c : Dev nD) (k : Fin 4096) :
    W m c (Proc.devRef .tc main_v180) (ValueIdx.ix2 11 k) = (face m c k).coef 11 := by
  unfold W faceOps
  simp only [List.drop]
  after_reads_at
  after_reads_at
  rfl

set_option maxHeartbeats 4000000 in
theorem read_row12 (c : Dev nD) (k : Fin 4096) :
    W m c (Proc.devRef .tc main_v180) (ValueIdx.ix2 12 k) = U m c (Proc.devRef .tc main_v38) (ValueIdx.ix2 k 0) := by
  unfold W faceOps
  simp only [List.drop]
  after_reads_at
  after_reads_at
  rfl

set_option maxHeartbeats 4000000 in
theorem read_row13 (c : Dev nD) (k : Fin 4096) :
    W m c (Proc.devRef .tc main_v180) (ValueIdx.ix2 13 k) = U m c (Proc.devRef .tc main_v38) (ValueIdx.ix2 k 1) := by
  unfold W faceOps
  simp only [List.drop]
  after_reads_at
  after_reads_at
  rfl

set_option maxHeartbeats 4000000 in
theorem read_row14 (c : Dev nD) (k : Fin 4096) :
    W m c (Proc.devRef .tc main_v180) (ValueIdx.ix2 14 k) = U m c (Proc.devRef .tc main_v38) (ValueIdx.ix2 k 2) := by
  unfold W faceOps
  simp only [List.drop]
  after_reads_at
  after_reads_at
  rfl

theorem read_ymin (c : Dev nD) (k : Fin 4096) : W m c (Proc.devRef .tc main_v147) (ValueIdx.ix1 k) = (face m c k).ymin := by
  unfold W faceOps
  simp only [List.drop]
  after_reads_at
  rfl

theorem read_ymax (c : Dev nD) (k : Fin 4096) : W m c (Proc.devRef .tc main_v149) (ValueIdx.ix1 k) = (face m c k).ymax := by
  unfold W faceOps
  simp only [List.drop]
  after_reads_at
  rfl

end Cert.Proof.KernelIdeal
-- ==== Proof.KernelIdealCorners.lean ====
module

public import proofs.«01_k».proof.Proof.KernelIdealHost
public import proofs.«01_k».proof.Proof.ReferenceIdealPixel

/-! The projected corners, depths and colours the kernel's host makes are the reference's, stage by stage. -/

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.StableHlo
open Cert.ReferenceIdeal.Read

variable {F : FTy → Type} [FloatOps F]

def lookOps : List (HloOp τ sig (Elt F)) := List.flatten [hostOps0, hostOps0_1, hostOps0_2, hostOps0_3, hostOps0_4]
def sideOps : List (HloOp τ sig (Elt F)) := hostOps0_6 ++ hostOps0_7
def axesOps : List (HloOp τ sig (Elt F)) := hostOps0_9.take 4
def viewOps : List (HloOp τ sig (Elt F)) := (hostOps0_9.take 48).drop 4

variable (V : Valuation τ sig (Elt F))

section
variable (x3 x4 : FVec F Cert.ReferenceIdeal.S3 .f32)

theorem look_v4 (h3 : V (Proc.devRef .tc main_arg3) = x3) : after lookOps V (Proc.devRef .tc main_v4) = val_main_v4 x3 := by
  subst h3
  unfold lookOps
  after_reads_simp
  rfl

theorem look_v8 (h4 : V (Proc.devRef .tc main_arg4) = x4) : after lookOps V (Proc.devRef .tc main_v8) = val_main_v8 x4 := by
  subst h4
  unfold lookOps
  after_reads_simp
  rfl

theorem look_keep_arg0 : after lookOps V (Proc.devRef .tc main_arg0) = V (Proc.devRef .tc main_arg0) := by
  unfold lookOps
  after_reads_simp

theorem look_keep_arg1 : after lookOps V (Proc.devRef .tc main_arg1) = V (Proc.devRef .tc main_arg1) := by
  unfold lookOps
  after_reads_simp

theorem look_keep_arg2 : after lookOps V (Proc.devRef .tc main_arg2) = V (Proc.devRef .tc main_arg2) := by
  unfold lookOps
  after_reads_simp

theorem look_keep_arg3 : after lookOps V (Proc.devRef .tc main_arg3) = V (Proc.devRef .tc main_arg3) := by
  unfold lookOps
  after_reads_simp

theorem cross_keep_v4 : after hostOps0_5 V (Proc.devRef .tc main_v4) = V (Proc.devRef .tc main_v4) := by
  after_reads_simp

theorem cross_keep_arg0 : after hostOps0_5 V (Proc.devRef .tc main_arg0) = V (Proc.devRef .tc main_arg0) := by
  after_reads_simp

theorem cross_keep_arg1 : after hostOps0_5 V (Proc.devRef .tc main_arg1) = V (Proc.devRef .tc main_arg1) := by
  after_reads_simp

theorem cross_keep_arg2 : after hostOps0_5 V (Proc.devRef .tc main_arg2) = V (Proc.devRef .tc main_arg2) := by
  after_reads_simp

theorem cross_keep_arg3 : after hostOps0_5 V (Proc.devRef .tc main_arg3) = V (Proc.devRef .tc main_arg3) := by
  after_reads_simp

theorem side_keep_v4 : after sideOps V (Proc.devRef .tc main_v4) = V (Proc.devRef .tc main_v4) := by
  unfold sideOps
  after_reads_simp

theorem side_keep_arg0 : after sideOps V (Proc.devRef .tc main_arg0) = V (Proc.devRef .tc main_arg0) := by
  unfold sideOps
  after_reads_simp

theorem side_keep_arg1 : after sideOps V (Proc.devRef .tc main_arg1) = V (Proc.devRef .tc main_arg1) := by
  unfold sideOps
  after_reads_simp

theorem side_keep_arg2 : after sideOps V (Proc.devRef .tc main_arg2) = V (Proc.devRef .tc main_arg2) := by
  unfold sideOps
  after_reads_simp

theorem side_keep_arg3 : after sideOps V (Proc.devRef .tc main_arg3) = V (Proc.devRef .tc main_arg3) := by
  unfold sideOps
  after_reads_simp

theorem up_keep_v4 : after hostOps0_8 V (Proc.devRef .tc main_v4) = V (Proc.devRef .tc main_v4) := by
  after_reads_simp

theorem up_keep_v13 : after hostOps0_8 V (Proc.devRef .tc main_v13) = V (Proc.devRef .tc main_v13) := by
  after_reads_simp

theorem up_keep_arg0 : after hostOps0_8 V (Proc.devRef .tc main_arg0) = V (Proc.devRef .tc main_arg0) := by
  after_reads_simp

theorem up_keep_arg1 : after hostOps0_8 V (Proc.devRef .tc main_arg1) = V (Proc.devRef .tc main_arg1) := by
  after_reads_simp

theorem up_keep_arg2 : after hostOps0_8 V (Proc.devRef .tc main_arg2) = V (Proc.devRef .tc main_arg2) := by
  after_reads_simp

theorem up_keep_arg3 : after hostOps0_8 V (Proc.devRef .tc main_arg3) = V (Proc.devRef .tc main_arg3) := by
  after_reads_simp

theorem axes_keep_arg0 : after axesOps V (Proc.devRef .tc main_arg0) = V (Proc.devRef .tc main_arg0) := by
  unfold axesOps
  simp only [List.take]
  after_reads_simp

theorem axes_keep_arg1 : after axesOps V (Proc.devRef .tc main_arg1) = V (Proc.devRef .tc main_arg1) := by
  unfold axesOps
  simp only [List.take]
  after_reads_simp

theorem axes_keep_arg2 : after axesOps V (Proc.devRef .tc main_arg2) = V (Proc.devRef .tc main_arg2) := by
  unfold axesOps
  simp only [List.take]
  after_reads_simp

theorem axes_keep_arg3 : after axesOps V (Proc.devRef .tc main_arg3) = V (Proc.devRef .tc main_arg3) := by
  unfold axesOps
  simp only [List.take]
  after_reads_simp

set_option maxHeartbeats 1000000 in
theorem cross_out (ha : V (Proc.devRef .tc main_v8) = val_main_v8 x4) (hb : V (Proc.devRef .tc main_v4) = val_main_v4 x3) :
    after hostOps0_5 V (Proc.devRef .tc main_v9) = val_main_v45 x3 x4 := by
  funext i
  obtain ⟨j, rfl⟩ : ∃ j : Fin 3, i = ValueIdx.ix1 j := ⟨i 0, ValueIdx.eq_ix1 i⟩
  simp only [val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45]
  have hj : j = 0 ∨ j = 1 ∨ j = 2 := by revert j; decide
  rcases hj with rfl | rfl | rfl <;>
  · after_reads_at
    after_reads_at
    simp only [ha, hb]
    rfl

theorem side_out (h : V (Proc.devRef .tc main_v9) = val_main_v45 x3 x4) :
    after sideOps V (Proc.devRef .tc main_v13) = val_main_v49 x3 x4 := by
  unfold sideOps
  simp only [val_main_call2_v0, val_main_call2_cst, val_main_call2_v1, val_main_cst_1, val_main_v46, val_main_v47, val_main_v48, val_main_v49]
  after_reads_simp
  rw [h]
  rfl

set_option maxHeartbeats 1000000 in
theorem up_out (ha : V (Proc.devRef .tc main_v4) = val_main_v4 x3) (hb : V (Proc.devRef .tc main_v13) = val_main_v49 x3 x4) :
    after hostOps0_8 V (Proc.devRef .tc main_v14) = val_main_v86 x3 x4 := by
  funext i
  obtain ⟨j, rfl⟩ : ∃ j : Fin 3, i = ValueIdx.ix1 j := ⟨i 0, ValueIdx.eq_ix1 i⟩
  simp only [val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86]
  have hj : j = 0 ∨ j = 1 ∨ j = 2 := by revert j; decide
  rcases hj with rfl | rfl | rfl <;>
  · after_reads_at
    after_reads_at
    simp only [ha, hb]
    rfl

set_option maxHeartbeats 1000000 in
theorem axes_out (ha : V (Proc.devRef .tc main_v13) = val_main_v49 x3 x4) (hb : V (Proc.devRef .tc main_v14) = val_main_v86 x3 x4)
    (hc : V (Proc.devRef .tc main_v4) = val_main_v4 x3) :
    after axesOps V (Proc.devRef .tc main_v18) = val_main_v90 x3 x4 := by
  funext i
  obtain ⟨j, k, rfl⟩ : ∃ (j : Fin 3) (k : Fin 3), i = ValueIdx.ix2 j k := ⟨i 0, i 1, ValueIdx.eq_ix2 i⟩
  unfold axesOps
  simp only [List.take]
  simp only [val_main_v87, val_main_v88, val_main_v89, val_main_v90]
  have hj : j = 0 ∨ j = 1 ∨ j = 2 := by revert j; decide
  rcases hj with rfl | rfl | rfl <;>
  · after_reads_at
    after_reads_at
    simp only [ha, hb, hc]

variable (x0 : FVec F Cert.ReferenceIdeal.S1x2048x3 .f32) (x1 : IVec Cert.ReferenceIdeal.S1x4096x3 32)
  (x2 : FVec F Cert.ReferenceIdeal.S1x4096x2x2x2x3 .f32)

set_option maxHeartbeats 1000000 in
theorem view_xy (h0 : V (Proc.devRef .tc main_arg0) = x0) (h1 : V (Proc.devRef .tc main_arg1) = x1) (h3 : V (Proc.devRef .tc main_arg3) = x3)
    (ha : V (Proc.devRef .tc main_v18) = val_main_v90 x3 x4) :
    after viewOps V (Proc.devRef .tc main_v46) = val_main_v114 x0 x1 x3 x4 := by
  unfold viewOps
  simp only [List.take, List.drop]
  simp only [val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_c, val_main_c_4, val_main_c_5, val_main_c_6, val_main_cst_2, val_main_cst_3]
  after_reads_simp
  rw [h0, h1, h3, ha]
  rfl

set_option maxHeartbeats 1000000 in
theorem view_z (h0 : V (Proc.devRef .tc main_arg0) = x0) (h1 : V (Proc.devRef .tc main_arg1) = x1) (h3 : V (Proc.devRef .tc main_arg3) = x3)
    (ha : V (Proc.devRef .tc main_v18) = val_main_v90 x3 x4) :
    after viewOps V (Proc.devRef .tc main_v54) = val_main_v122 x0 x1 x3 x4 := by
  unfold viewOps
  simp only [List.take, List.drop]
  simp only [val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_c, val_main_c_4, val_main_c_5, val_main_c_6, val_main_cst_2, val_main_cst_3]
  after_reads_simp
  rw [h0, h1, h3, ha]
  rfl

theorem view_colour (h2 : V (Proc.devRef .tc main_arg2) = x2) :
    after viewOps V (Proc.devRef .tc main_v38) = val_main_v126 x2 := by
  unfold viewOps
  simp only [List.take, List.drop]
  after_reads_simp
  rw [h2]
  rfl

end

variable (m : (ℓ : Loc nD τ sig) → Buf (Elt F) ℓ) (c : Dev nD)

theorem U_eq : U m c = after viewOps (after axesOps (after hostOps0_8 (after sideOps (after hostOps0_5 (after lookOps (fun b => m (c, b))))))) := by
  unfold U
  rw [← after_append, ← after_append, ← after_append, ← after_append, ← after_append]
  rfl

theorem U_axes (x3 x4 : FVec F Cert.ReferenceIdeal.S3 .f32) (h3 : V (Proc.devRef .tc main_arg3) = x3) (h4 : V (Proc.devRef .tc main_arg4) = x4) :
    after axesOps (after hostOps0_8 (after sideOps (after hostOps0_5 (after lookOps V)))) (Proc.devRef .tc main_v18) = val_main_v90 x3 x4 := by
  have e4 := look_v4 V x3 h3
  have e8 := look_v8 V x4 h4
  have e9 := cross_out (after lookOps V) x3 x4 e8 e4
  have e13 := side_out _ x3 x4 e9
  have f4 : after sideOps (after hostOps0_5 (after lookOps V)) (Proc.devRef .tc main_v4) = val_main_v4 x3 := by
    rw [side_keep_v4, cross_keep_v4, e4]
  have e14 := up_out _ x3 x4 f4 e13
  refine axes_out _ x3 x4 ?_ e14 ?_
  · rw [up_keep_v13, e13]
  · rw [up_keep_v4, f4]

/-- The arguments stand until the corners are made. -/
theorem U_keep_arg0 : after axesOps (after hostOps0_8 (after sideOps (after hostOps0_5 (after lookOps V)))) (Proc.devRef .tc main_arg0)
    = V (Proc.devRef .tc main_arg0) := by
  rw [axes_keep_arg0, up_keep_arg0, side_keep_arg0, cross_keep_arg0, look_keep_arg0]

theorem U_keep_arg1 : after axesOps (after hostOps0_8 (after sideOps (after hostOps0_5 (after lookOps V)))) (Proc.devRef .tc main_arg1)
    = V (Proc.devRef .tc main_arg1) := by
  rw [axes_keep_arg1, up_keep_arg1, side_keep_arg1, cross_keep_arg1, look_keep_arg1]

theorem U_keep_arg2 : after axesOps (after hostOps0_8 (after sideOps (after hostOps0_5 (after lookOps V)))) (Proc.devRef .tc main_arg2)
    = V (Proc.devRef .tc main_arg2) := by
  rw [axes_keep_arg2, up_keep_arg2, side_keep_arg2, cross_keep_arg2, look_keep_arg2]

theorem U_keep_arg3 : after axesOps (after hostOps0_8 (after sideOps (after hostOps0_5 (after lookOps V)))) (Proc.devRef .tc main_arg3)
    = V (Proc.devRef .tc main_arg3) := by
  rw [axes_keep_arg3, up_keep_arg3, side_keep_arg3, cross_keep_arg3, look_keep_arg3]

theorem U_xy : U m c (Proc.devRef .tc main_v46) = val_main_v114 (F := F) (m (c, Proc.devRef .tc main_arg0)) (m (c, Proc.devRef .tc main_arg1)) (m (c, Proc.devRef .tc main_arg3)) (m (c, Proc.devRef .tc main_arg4)) := by
  rw [U_eq]
  exact view_xy _ _ _ _ _ (U_keep_arg0 _) (U_keep_arg1 _) (U_keep_arg3 _) (U_axes _ _ _ rfl rfl)

theorem U_z : U m c (Proc.devRef .tc main_v54) = val_main_v122 (F := F) (m (c, Proc.devRef .tc main_arg0)) (m (c, Proc.devRef .tc main_arg1)) (m (c, Proc.devRef .tc main_arg3)) (m (c, Proc.devRef .tc main_arg4)) := by
  rw [U_eq]
  exact view_z _ _ _ _ _ (U_keep_arg0 _) (U_keep_arg1 _) (U_keep_arg3 _) (U_axes _ _ _ rfl rfl)

theorem U_colour : U m c (Proc.devRef .tc main_v38) = val_main_v126 (F := F) (m (c, Proc.devRef .tc main_arg2)) := by
  rw [U_eq]
  exact view_colour _ _ (U_keep_arg2 _)

end Cert.Proof.KernelIdeal
-- ==== Proof.KernelIdealOrder.lean ====
module

public import proofs.«01_k».proof.Proof.KernelIdealHost
public import Idealize.ShloMosaic.Lib.StableHlo.Predicate

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.StableHlo

variable {F : FTy → Type} [FloatOps F]
variable (m : (ℓ : Loc nD τ sig) → Buf (Elt F) ℓ)

/-- Sorting the positions by any keys gives every position a place. -/
theorem sort_order {n : ℕ} {α : Type} (cmp : α × BitVec 32 → α × BitVec 32 → BitVec 1) (x : (⟨1, ![n]⟩ : Shape).Idx → α) :
    ∃ σ : Fin n → Fin n, Function.Surjective σ ∧
      ∀ k, (Host.sort2 ⟨1, ![n]⟩ 0 cmp x (iotaInDim ⟨1, ![n]⟩ 32 0)).2 (ValueIdx.ix1 k) = BitVec.ofNat 32 (σ k).val := by
  have e : ∀ (i : (⟨1, ![n]⟩ : Shape).Idx) (a : Fin n), i.along 0 a = ValueIdx.ix1 a := by
    intro i a
    funext q
    obtain rfl : q = 0 := Subsingleton.elim _ _
    exact Function.update_self _ _ _
  refine ⟨sortedFrom (fun k k' : Fin n => cmp (x (ValueIdx.ix1 k), iotaInDim ⟨1, ![n]⟩ 32 0 (ValueIdx.ix1 k))
    (x (ValueIdx.ix1 k'), iotaInDim ⟨1, ![n]⟩ 32 0 (ValueIdx.ix1 k')) == 1#1), sortedFrom_surjective _, fun k => ?_⟩
  have h : (Host.sort2 ⟨1, ![n]⟩ 0 cmp x (iotaInDim ⟨1, ![n]⟩ 32 0)).2 (ValueIdx.ix1 k)
      = iotaInDim ⟨1, ![n]⟩ 32 0 ((ValueIdx.ix1 k : (⟨1, ![n]⟩ : Shape).Idx).along 0 (sortedFrom (fun q q' : Fin n =>
        cmp (x ((ValueIdx.ix1 k : (⟨1, ![n]⟩ : Shape).Idx).along 0 q), iotaInDim ⟨1, ![n]⟩ 32 0 ((ValueIdx.ix1 k : (⟨1, ![n]⟩ : Shape).Idx).along 0 q))
          (x ((ValueIdx.ix1 k : (⟨1, ![n]⟩ : Shape).Idx).along 0 q'), iotaInDim ⟨1, ![n]⟩ 32 0 ((ValueIdx.ix1 k : (⟨1, ![n]⟩ : Shape).Idx).along 0 q')) == 1#1) k)) := rfl
  rw [h]
  simp only [e]
  rfl

theorem read_order (c : Dev nD) : ∃ σ : Fin 4096 → Fin 4096, Function.Surjective σ ∧
    ∀ k, W m c (Proc.devRef .tc main_v182) (ValueIdx.ix1 k) = BitVec.ofNat 32 (σ k).val := by
  unfold W faceOps
  simp only [List.drop]
  after_reads_simp
  simp -implicitDefEqProofs only [StableHlo.TRef.toBuf, StableHlo.TRef.ofBuf, cast_cast, cast_eq]
  exact sort_order _ _

/-- The table's gather: row `r` of the column the index names. -/
theorem gather_col (x : FVec F S15x4096 .f32) (idx : IVec S4096x1 32) (r : Fin 15) (k : Fin 4096) :
    Host.gather gather_S15x4096_S4096x1_S15x4096_0_1_n_n_1_1_151 x idx (ValueIdx.ix2 r k)
      = x (ValueIdx.ix2 r ⟨min (idx (ValueIdx.ix2 k 0)).toInt.toNat 4095, by omega⟩) := by
  generalize hd : gather_S15x4096_S4096x1_S15x4096_0_1_n_n_1_1_151 = d
  have hcoll : d.collapsedSliceDims = [1] := by rw [← hd]; rfl
  have hob : d.operandBatchingDims = [] := by rw [← hd]; rfl
  have hsim : d.startIndexMap = [1] := by rw [← hd]; rfl
  unfold Host.gather
  congr 1
  funext a
  refine Fin.ext ?_
  show d.start (ValueIdx.ix2 r k) idx a + d.batchCoord (ValueIdx.ix2 r k) a + d.offCoord (ValueIdx.ix2 r k) a = _
  rw [GatherDims.batchCoord_eq_zero _ _ _ (by rw [hob]; exact List.not_mem_nil)]
  have ha : a = 0 ∨ a = 1 := by
    match a with
    | ⟨0, _⟩ => exact Or.inl rfl
    | ⟨1, _⟩ => exact Or.inr rfl
  rcases ha with rfl | rfl
  · have h0 : d.start (ValueIdx.ix2 r k) idx 0 = 0 := by
      unfold GatherDims.start
      rw [dif_neg (by rw [hsim]; decide)]
    rw [h0]
    subst hd
    show 0 + 0 + GatherDims.offCoord _ _ _ = r.val
    rw [Nat.zero_add]
    rfl
  · rw [GatherDims.offCoord_eq_zero _ _ _ (fun h => ((GatherDims.mem_sKept _ _).mp h).1 (by rw [hcoll]; exact List.mem_singleton.mpr rfl))]
    simp only [Nat.add_zero]
    unfold GatherDims.start
    rw [dif_pos (show (1 : Fin 2) ∈ d.startIndexMap from by rw [hsim]; exact List.mem_singleton.mpr rfl)]
    subst hd
    have hsi : gather_S15x4096_S4096x1_S15x4096_0_1_n_n_1_1_151.siIdx (ValueIdx.ix2 r k)
        ⟨List.idxOf (1 : Fin 2) gather_S15x4096_S4096x1_S15x4096_0_1_n_n_1_1_151.startIndexMap,
        List.idxOf_lt_length_iff.2 (List.mem_singleton.mpr rfl)⟩ = ValueIdx.ix2 k 0 := by
      funext b
      refine Fin.ext ?_
      match b with
      | ⟨0, _⟩ => rfl
      | ⟨1, _⟩ => rfl
    rw [hsi]
    rfl

/-- A face's number, made non-negative and read back, is the face. -/
theorem wrap_order (w : IVec S4096 32) (k f : Fin 4096) (h : w (ValueIdx.ix1 k) = BitVec.ofNat 32 f.val) :
    (broadcastInDim S4096x1 ![0] bcast_S4096_S4096x1_0
        (select (cmpi CmpIPredicate.slt w (broadcastInDim S4096 ![] bcast_S_S4096 (constantI S_ 32 0#32)))
          (addi w (broadcastInDim S4096 ![] bcast_S_S4096 (constantI S_ 32 4096#32))) w)) (ValueIdx.ix2 k 0)
      = BitVec.ofNat 32 f.val := by
  have e : (Scalar.select (IntOp.cmpi .slt (w (ValueIdx.ix1 k)) 0#32) (IntOp.addi (w (ValueIdx.ix1 k)) 4096#32) (w (ValueIdx.ix1 k)))
      = BitVec.ofNat 32 f.val := by
    have hn : IntOp.cmpi .slt (BitVec.ofNat 32 f.val) 0#32 = 0#1 := by
      have : ¬ (BitVec.ofNat 32 f.val).slt 0#32 = true := by
        rw [BitVec.slt_iff_toInt_lt, StableHlo.Predicate.toInt_ofNat_small f.val (by have := f.isLt; omega)]
        simp
      simp [IntOp.cmpi, this]
    rw [h, hn]
    rfl
  rw [← e]
  pointwise
  rfl

theorem ofNat_back (f : Fin 4096) : min (BitVec.ofNat 32 f.val).toInt.toNat 4095 = f.val := by
  have := f.isLt
  rw [StableHlo.Predicate.toInt_ofNat_small f.val (by omega)]
  simp only [Int.toNat_natCast]
  omega

theorem gather_face (x : FVec F S15x4096 .f32) (idx : IVec S4096x1 32) (r : Fin 15) (k f : Fin 4096)
    (h : idx (ValueIdx.ix2 k 0) = BitVec.ofNat 32 f.val) :
    Host.gather gather_S15x4096_S4096x1_S15x4096_0_1_n_n_1_1_151 x idx (ValueIdx.ix2 r k) = x (ValueIdx.ix2 r f) := by
  have e : ∀ hh, (⟨min (idx (ValueIdx.ix2 k 0)).toInt.toNat 4095, hh⟩ : Fin 4096) = f := fun hh =>
    Fin.ext (by show min (idx (ValueIdx.ix2 k 0)).toInt.toNat 4095 = f.val; rw [h]; exact ofNat_back f)
  rw [gather_col, e]

theorem take_face (x : FVec F S4096 .f32) (idx : IVec S4096x1 32) (k f : Fin 4096)
    (h : idx (ValueIdx.ix2 k 0) = BitVec.ofNat 32 f.val) :
    Host.gather gather_S4096_S4096x1_S4096_n_0_n_n_0_1_1 x idx (ValueIdx.ix1 k) = x (ValueIdx.ix1 f) := by
  have e : ∀ g : Fin 4096, (ValueIdx.ix1 g : S4096.Idx) = Shape.Idx.ofFin g := fun g => Shape.Idx.eq_ofFin _
  rw [e k, e f, StableHlo.Predicate.gather_take _ rfl rfl rfl rfl x idx k (by decide)]
  have e2 : ∀ hh, (⟨min (idx (StableHlo.Predicate.ixP k)).toInt.toNat (4096 - 1), hh⟩ : Fin 4096) = f := fun hh =>
    Fin.ext (by
      show min (idx (StableHlo.Predicate.ixP k)).toInt.toNat (4096 - 1) = f.val
      rw [show StableHlo.Predicate.ixP k = (ValueIdx.ix2 k 0 : S4096x1.Idx) from by
        funext b
        match b with
        | ⟨0, _⟩ => rfl
        | ⟨1, _⟩ => rfl, h]
      exact ofNat_back f)
  rw [e2]

theorem read_table (c : Dev nD) (σ : Fin 4096 → Fin 4096)
    (hσ : ∀ k, W m c (Proc.devRef .tc main_v182) (ValueIdx.ix1 k) = BitVec.ofNat 32 (σ k).val) (r : Fin 15) (k : Fin 4096) :
    V0 m c (Proc.devRef .tc main_v189) (ValueIdx.ix2 r k) = W m c (Proc.devRef .tc main_v180) (ValueIdx.ix2 r (σ k)) := by
  rw [V0_eq]
  after_reads_simp
  exact gather_face _ _ r k (σ k) (wrap_order _ k (σ k) (hσ k))

theorem W_arg5 (c : Dev nD) : W m c (Proc.devRef .tc main_arg5) = m (c, Proc.devRef .tc main_arg5) := by
  unfold W U faceOps cornerOps
  simp only [List.drop, List.take]
  after_reads_simp

theorem read_picture (c : Dev nD) (a : Fin 3) (h w : Fin 512) :
    V0 m c (Proc.devRef .tc main_v214) (ValueIdx.ix3 a h w) = m (c, Proc.devRef .tc main_arg5) (ValueIdx.ix4 0 a.rev h w) := by
  rw [V0_eq]
  after_reads_at
  rw [W_arg5]
  rfl

theorem read_pairs0 (c : Dev nD) (σ : Fin 4096 → Fin 4096)
    (hσ : ∀ k, W m c (Proc.devRef .tc main_v182) (ValueIdx.ix1 k) = BitVec.ofNat 32 (σ k).val) (k : Fin 2048) :
    V0 m c (Proc.devRef .tc main_v212) (ValueIdx.ix2 0 k) = FloatOps.minimumf (face m c (σ ⟨2 * k.val, by omega⟩)).ymin
      (face m c (σ ⟨2 * k.val + 1, by omega⟩)).ymin := by
  rw [V0_eq]
  after_reads_at
  rw [← read_ymin m c, ← read_ymin m c, ← take_face (W m c (Proc.devRef .tc main_v147)) _ ⟨2 * k.val, by omega⟩ _ (wrap_order _ _ _ (hσ _)),
    ← take_face (W m c (Proc.devRef .tc main_v147)) _ ⟨2 * k.val + 1, by omega⟩ _ (wrap_order _ _ _ (hσ _))]
  have e : (⟨1 + 2 * k.val, by omega⟩ : Fin 4096) = ⟨2 * k.val + 1, by omega⟩ := Fin.ext (by show 1 + 2 * k.val = 2 * k.val + 1; omega)
  rw [← e]
  rfl

theorem read_pairs1 (c : Dev nD) (σ : Fin 4096 → Fin 4096)
    (hσ : ∀ k, W m c (Proc.devRef .tc main_v182) (ValueIdx.ix1 k) = BitVec.ofNat 32 (σ k).val) (k : Fin 2048) :
    V0 m c (Proc.devRef .tc main_v212) (ValueIdx.ix2 1 k) = FloatOps.maximumf (face m c (σ ⟨2 * k.val, by omega⟩)).ymax
      (face m c (σ ⟨2 * k.val + 1, by omega⟩)).ymax := by
  rw [V0_eq]
  after_reads_at
  rw [← read_ymax m c, ← read_ymax m c, ← take_face (W m c (Proc.devRef .tc main_v149)) _ ⟨2 * k.val, by omega⟩ _ (wrap_order _ _ _ (hσ _)),
    ← take_face (W m c (Proc.devRef .tc main_v149)) _ ⟨2 * k.val + 1, by omega⟩ _ (wrap_order _ _ _ (hσ _))]
  have e : (⟨1 + 2 * k.val, by omega⟩ : Fin 4096) = ⟨2 * k.val + 1, by omega⟩ := Fin.ext (by show 1 + 2 * k.val = 2 * k.val + 1; omega)
  rw [← e]
  rfl

end Cert.Proof.KernelIdeal
-- ==== Proof.KernelIdealColours.lean ====
module

public import proofs.«01_k».proof.Proof.SamePixel
public import proofs.«01_k».proof.Proof.GeneralPosition
public import proofs.«01_k».proof.Proof.KernelIdealCorners
public import proofs.«01_k».proof.Proof.KernelIdealOrder
public import proofs.«01_k».proof.Proof.KernelIdealFrame

/-! The loop's picture is the reference's picture, pixel by pixel. -/

@[expose] public section

noncomputable section

namespace Cert.Proof.KernelIdeal
open Idealize.ShloMosaic
open Cert.KernelIdeal Cert.KernelIdeal.Gen
open Cert.Proof.Raster Cert.Proof.Pixel Cert.Proof.Ref

/-! The points of a tile. -/

theorem point_x (r : Fin 64) (w : Fin 512) : (k0_pay24 (F := Ideal) (ValueIdx.ix2 r w) : EReal) = ((xR w.val : ℝ) : EReal) := by
  have e : k0_pay24 (F := Ideal) (ValueIdx.ix2 r w) = FloatOps.subf (FloatOps.mulf (FloatOps.addf (FloatOps.sitofp .f32 (BitVec.ofNat 32 w.val))
      (FloatOps.ofBits .f32 0x3F000000#32)) (FloatOps.ofBits .f32 0x3B800000#32)) (FloatOps.ofBits .f32 0x3F800000#32) := by
    unfold k0_pay24
    dsimp only
    pointwise
  rw [e, sitofp_small w.val (by omega)]
  simp only [Ideal.addf_def, Ideal.subf_def, Ideal.mulf_def, Ideal.ofBits_def, half_eq, step_eq, one_eq]
  rw [← EReal.coe_add, ← EReal.coe_mul, ← EReal.coe_sub]
  rfl

theorem tile_top (i : grid0.Coords) : (k0_pay25 (F := Ideal) i : EReal) = ((yR (64 * (i 0).val) : ℝ) : EReal) := by
  have e : k0_pay25 (F := Ideal) i = FloatOps.subf (FloatOps.ofBits .f32 0x3F800000#32) (FloatOps.mulf (FloatOps.addf (FloatOps.mulf
      (FloatOps.sitofp .f32 (BitVec.ofNat 32 (i 0).val)) (FloatOps.ofBits .f32 0x42800000#32))
      (FloatOps.ofBits .f32 0x3F000000#32)) (FloatOps.ofBits .f32 0x3B800000#32)) := rfl
  have hi : (i 0).val < 8 := (i 0).isLt
  rw [e, sitofp_small (i 0).val (by omega)]
  simp only [Ideal.addf_def, Ideal.subf_def, Ideal.mulf_def, Ideal.ofBits_def, half_eq, step_eq, one_eq, rows_eq]
  rw [← EReal.coe_mul, ← EReal.coe_add, ← EReal.coe_mul, ← EReal.coe_sub]
  congr 1
  unfold yR
  push_cast
  ring

theorem point_y (i : grid0.Coords) (r : Fin 64) (w : Fin 512) :
    (k0_pay26 (F := Ideal) i (ValueIdx.ix2 r w) : EReal) = ((yR (64 * (i 0).val + r.val) : ℝ) : EReal) := by
  have e : k0_pay26 (F := Ideal) i (ValueIdx.ix2 r w) = FloatOps.subf (k0_pay25 (F := Ideal) i) (FloatOps.mulf
      (FloatOps.sitofp .f32 (BitVec.ofNat 32 r.val)) (FloatOps.ofBits .f32 0x3B800000#32)) := by
    unfold k0_pay26
    dsimp only
    pointwise
  rw [e, sitofp_small r.val (by omega), Ideal.subf_def, tile_top]
  simp only [Ideal.mulf_def, Ideal.ofBits_def, step_eq]
  rw [← EReal.coe_mul, ← EReal.coe_sub]
  congr 1
  unfold yR
  push_cast
  ring

theorem tile_bottom (i : grid0.Coords) : (k0_pay27 (F := Ideal) i : EReal) = ((yR (64 * (i 0).val + 63) : ℝ) : EReal) := by
  have e : k0_pay27 (F := Ideal) i = FloatOps.subf (k0_pay25 (F := Ideal) i) (FloatOps.ofBits .f32 0x3E7C0000#32) := rfl
  rw [e, Ideal.subf_def, tile_top, Ideal.ofBits_def, span_eq, ← EReal.coe_sub]
  congr 1
  unfold yR
  push_cast
  ring

theorem yR_mono {a b : ℕ} (h : a ≤ b) : yR b ≤ yR a := by
  unfold yR
  have : (a : ℝ) ≤ b := by exact_mod_cast h
  linarith

section
variable (cf : S15x4096.Idx → Ideal .f32) (pb : S2x2048.Idx → Ideal .f32)
  (σ : Fin 4096 → Fin 4096) (hσ : Function.Surjective σ) (t : Fin 4096 → Tri Ideal) (ink : Fin 4096 → Ideal .f32 × Ideal .f32 × Ideal .f32)
  (hcf : ∀ (a : Fin 12) k, cf (ValueIdx.ix2 ⟨a.val, row_lt a⟩ k) = (t (σ k)).coef a)
  (hink : ∀ k, (cf (ValueIdx.ix2 12 k), cf (ValueIdx.ix2 13 k), cf (ValueIdx.ix2 14 k)) = ink (σ k))
  (h0 : ∀ k : Fin 2048, pb (ValueIdx.ix2 0 k) = FloatOps.minimumf (t (σ ⟨2 * k.val, even_lt k.isLt⟩)).ymin (t (σ ⟨2 * k.val + 1, odd_lt k.isLt⟩)).ymin)
  (h1 : ∀ k : Fin 2048, pb (ValueIdx.ix2 1 k) = FloatOps.maximumf (t (σ ⟨2 * k.val, even_lt k.isLt⟩)).ymax (t (σ ⟨2 * k.val + 1, odd_lt k.isLt⟩)).ymax)
  (i : grid0.Coords) (r : Fin 64) (w h : Fin 512) (hh : h.val = 64 * (i 0).val + r.val)
  (xy : FVec Ideal Cert.ReferenceIdeal.S4096x3x2 .f32) (z : FVec Ideal Cert.ReferenceIdeal.S4096x3 .f32)
  (hgen : ∀ f : Fin 4096, IntOp.andi (IntOp.andi (triAt xy z f).finite ((triAt xy z f).offEdges (xs w) (ys h)))
          (IntOp.ori (IntOp.ori (~~~((triAt xy z f).drawn (xs w) (ys h)))
            (IntOp.cmpi .eq (BitVec.ofNat 32 f.val) (firstArr (zmArr xy z) (ValueIdx.ix2 h w))))
            (FloatOps.cmpf .ogt ((triAt xy z f).zm (xs w) (ys h)) (zminArr (zmArr xy z) (ValueIdx.ix2 h w)))) = 1#1)
  (ht : ∀ f, triAt xy z f = t f) (hflat : ∀ f, Flat (t f))

include hσ hcf hink h0 h1 hh hgen ht hflat in
theorem tile_pixel :
    ((zminArr (zmArr xy z) (ValueIdx.ix2 h w) : EReal) < ((farR : ℝ) : EReal)
      ∧ ∃ f₀ : Fin 4096, firstArr (zmArr xy z) (ValueIdx.ix2 h w) = BitVec.ofNat 32 f₀.val
        ∧ (pix (scrAt cf pb k0_pay24 (k0_pay25 i) (k0_pay26 i) (k0_pay27 i) 2048) r w).2 = ink f₀)
    ∨ (¬ (zminArr (zmArr xy z) (ValueIdx.ix2 h w) : EReal) < ((farR : ℝ) : EReal)
      ∧ (pix (scrAt cf pb k0_pay24 (k0_pay25 i) (k0_pay26 i) (k0_pay27 i) 2048) r w).2
        = (FloatOps.ofBits .f32 0x00000000#32, FloatOps.ofBits .f32 0x00000000#32, FloatOps.ofBits .f32 0x00000000#32)) := by
  have hx := xs_real w
  have hy := ys_real h
  have hoff := off_at h w xy z hgen (xR w.val) (yR h.val) hx hy t ht
  have step := pix_trip (k0_pay24 (F := Ideal)) (k0_pay26 i) (k0_pay25 i) (k0_pay27 i) cf pb σ t ink hcf hink h0 h1 r w (xR w.val) (yR h.val)
    (point_x r w) (by rw [point_y, hh]) (by rw [tile_top, EReal.coe_le_coe_iff, hh]; exact yR_mono (by omega))
    (by rw [tile_bottom, EReal.coe_le_coe_iff, hh]; exact yR_mono (by omega))
    (xR_ne w.val) (yR_ne h.val) hflat hoff
  have start := pix_start (F := Ideal) (k0_pay24 (F := Ideal)) (k0_pay26 i) r w cf pb (k0_pay25 i) (k0_pay27 i)
  by_cases hlt : (zminArr (zmArr xy z) (ValueIdx.ix2 h w) : EReal) < ((farR : ℝ) : EReal)
  · left
    refine ⟨hlt, ?_⟩
    obtain ⟨f₀, e₀, d₀, near, low⟩ := case_drawn h w xy z hgen (xR w.val) (yR h.val) hx hy t ht hflat hlt
    refine ⟨f₀, e₀, ?_⟩
    have last := nearest_stays (isDrawn t (xR w.val) (yR h.val)) (depthAt t (xR w.val) (yR h.val)) ink σ hσ
      (fun n => pix (scrAt cf pb k0_pay24 (k0_pay25 i) (k0_pay26 i) (k0_pay27 i) n) r w) step f₀ d₀ near
      (by
        rw [start, Ideal.ofBits_def, far_eq]
        exact low)
    rw [last]
  · right
    refine ⟨hlt, ?_⟩
    have none := case_empty h w xy z hgen (xR w.val) (yR h.val) hx hy t ht hflat hlt
    have last := stays (isDrawn t (xR w.val) (yR h.val)) (depthAt t (xR w.val) (yR h.val)) ink σ
      (fun n => pix (scrAt cf pb k0_pay24 (k0_pay25 i) (k0_pay26 i) (k0_pay27 i) n) r w) step none 2048 le_rfl
    rw [last, start]

end

section
open Cert.ReferenceIdeal.Read
variable [Cert.Pre_general_position.Facts] (m : (ℓ : Loc nD τ sig) → Buf (Elt Ideal) ℓ) (c : Dev nD)

/-- The reference's rendered picture, of the kernel's arguments. -/
def drawing : FVec Ideal Cert.ReferenceIdeal.S512x512x3 .f32 :=
  val_main_v298 (F := Ideal) (m (c, Proc.devRef .tc main_arg0)) (m (c, Proc.devRef .tc main_arg1)) (m (c, Proc.devRef .tc main_arg2))
    (m (c, Proc.devRef .tc main_arg3)) (m (c, Proc.devRef .tc main_arg4))

/-- The arrays after the loop at tile `i`. -/
def tileScr (i : grid0.Coords) : Scr Ideal :=
  scrAt (V0 m c (Proc.devRef .tc main_v189)) (V0 m c (Proc.devRef .tc main_v212)) k0_pay24 (k0_pay25 i) (k0_pay26 i) (k0_pay27 i) 2048

variable (hpre : Cert.Pre_general_position.fn (F := Ideal) (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5)) = fun _ => 1#1)

theorem face_eq (f : Fin 4096) : face m c f = triAt (val_main_v114 (F := Ideal) (m (c, Proc.devRef .tc main_arg0)) (m (c, Proc.devRef .tc main_arg1)) (m (c, Proc.devRef .tc main_arg3)) (m (c, Proc.devRef .tc main_arg4)))
    (val_main_v122 (F := Ideal) (m (c, Proc.devRef .tc main_arg0)) (m (c, Proc.devRef .tc main_arg1)) (m (c, Proc.devRef .tc main_arg3)) (m (c, Proc.devRef .tc main_arg4))) f := by
  unfold face
  rw [U_xy, U_z]

theorem far_bit (a : EReal) : FloatOps.cmpf (F := Ideal) (φ := .f32) .olt a (FloatOps.ofBits .f32 0x501502F9#32) = 1#1
    ↔ a < ((farR : ℝ) : EReal) := by
  rw [Ideal.ofBits_def, far_eq]
  exact olt_bit _ _

theorem table_coef (k : Fin 4096) (a : Fin 12) :
    W m c (Proc.devRef .tc main_v180) (ValueIdx.ix2 ⟨a.val, row_lt a⟩ k) = (face m c k).coef a := by
  fin_cases a
  · exact read_row0 m c k
  · exact read_row1 m c k
  · exact read_row2 m c k
  · exact read_row3 m c k
  · exact read_row4 m c k
  · exact read_row5 m c k
  · exact read_row6 m c k
  · exact read_row7 m c k
  · exact read_row8 m c k
  · exact read_row9 m c k
  · exact read_row10 m c k
  · exact read_row11 m c k

include hpre in
theorem same_colour (i : grid0.Coords) (r : Fin 64) (w h : Fin 512) (hh : h.val = 64 * (i 0).val + r.val) :
    (pix (tileScr m c i) r w).2 = (drawing m c (ValueIdx.ix3 h w 0), drawing m c (ValueIdx.ix3 h w 1), drawing m c (ValueIdx.ix3 h w 2)) := by
  unfold drawing
  have hface := face_eq m c
  have hcol := U_colour m c
  rw [general_eq] at hpre
  obtain ⟨σ, hs, hσ⟩ := read_order m c
  have htab := read_table m c σ hσ
  have hp0 := read_pairs0 m c σ hσ
  have hp1 := read_pairs1 m c σ hσ
  have hgen := fun f => (general_read _ _ h w f).symm.trans (congrFun hpre (ValueIdx.ix3 h w f))
  have hsel := read_select (F := Ideal) (m (c, Proc.devRef .tc main_arg0)) (m (c, Proc.devRef .tc main_arg1)) (m (c, Proc.devRef .tc main_arg2))
    (m (c, Proc.devRef .tc main_arg3)) (m (c, Proc.devRef .tc main_arg4)) h w
  have hgat := read_gathered (F := Ideal) (m (c, Proc.devRef .tc main_arg0)) (m (c, Proc.devRef .tc main_arg1)) (m (c, Proc.devRef .tc main_arg2))
    (m (c, Proc.devRef .tc main_arg3)) (m (c, Proc.devRef .tc main_arg4)) h w
  have hflat := fun f => flat_of_finite _ ((and_bit _ _).mp ((and_bit _ _).mp (hgen f)).1).1
  have key := tile_pixel (V0 m c (Proc.devRef .tc main_v189)) (V0 m c (Proc.devRef .tc main_v212)) σ hs _
    (fun f => (U m c (Proc.devRef .tc main_v38) (ValueIdx.ix2 f 0), U m c (Proc.devRef .tc main_v38) (ValueIdx.ix2 f 1),
      U m c (Proc.devRef .tc main_v38) (ValueIdx.ix2 f 2)))
    (fun a k => by rw [htab, table_coef, hface])
    (fun k => by rw [htab, htab, htab, read_row12, read_row13, read_row14])
    (fun k => by rw [hp0, hface, hface])
    (fun k => by rw [hp1, hface, hface])
    i r w h hh _ _ hgen (fun _ => rfl) hflat
  unfold tileScr
  rcases key with ⟨hlt, f₀, e₀, key⟩ | ⟨hlt, key⟩
  · have hb := (far_bit _).mpr hlt
    have ch := fun a => (hsel a).trans ((select_one hb).trans (hgat a f₀ e₀))
    rw [hcol] at key
    rw [key, ch 0, ch 1, ch 2]
  · have hb := (far_bit _).not.mpr hlt
    have ch := fun a => (hsel a).trans (select_not hb)
    rw [key, ch 0, ch 1, ch 2]

end

end Cert.Proof.KernelIdeal
-- ==== Proof.KernelIdealTiles.lean ====
module

public import proofs.«01_k».proof.Proof.KernelIdealColours

/-! What each tile of the kernel adds up, and the array of the tiles' rows. -/

@[expose] public section

noncomputable section

namespace Cert.Proof.KernelIdeal
open Idealize.ShloMosaic
open Cert.KernelIdeal Cert.KernelIdeal.Gen
open Idealize.ShloMosaic.Pipeline (Dat)

theorem squares (R G B : FVec Ideal S64x512 .f32) (X0 X1 X2 : FVec Ideal S1x64x512 .f32) (w : Fin 512) :
    (k0_pay3 (F := Ideal) R X0 G X1 B X2 (ValueIdx.ix3 0 0 w) : EReal)
      = ∑ r : Fin 64, ((((R (ValueIdx.ix2 r w) - X0 (ValueIdx.ix3 0 r w) : EReal) * (R (ValueIdx.ix2 r w) - X0 (ValueIdx.ix3 0 r w) : EReal))
          + (G (ValueIdx.ix2 r w) - X1 (ValueIdx.ix3 0 r w) : EReal) * (G (ValueIdx.ix2 r w) - X1 (ValueIdx.ix3 0 r w) : EReal))
          + (B (ValueIdx.ix2 r w) - X2 (ValueIdx.ix3 0 r w) : EReal) * (B (ValueIdx.ix2 r w) - X2 (ValueIdx.ix3 0 r w) : EReal)) := by
  unfold k0_pay3
  dsimp only
  pointwise
  refine (Ideal.multiReduction_add_single _ _ _ _ _ _).trans (Finset.sum_congr rfl fun (r : Fin 64) _ => ?_)
  have hl : (reduces_S64x512_S512 : S64x512.Reduces [0] S512).lift (ValueIdx.ix1 w) r = ValueIdx.ix2 r w := by
    funext b
    refine Fin.ext ?_
    match b with
    | ⟨0, _⟩ => rfl
    | ⟨1, _⟩ => rfl
  refine (congrArg _ hl).trans ?_
  pointwise
  rfl

theorem coord_eq (t : Fin cfg0.N) : ((grid0.coords t) 0).val = t.val := by
  rcases fin_N0 t with rfl | rfl | rfl | rfl | rfl | rfl | rfl | rfl <;> decide +kernel

theorem emb_faces (t : Fin cfg0.N) (i : S15x4096.Idx) : ((cfg0.win 0).blk t).view.emb i = i := by
  have e : win0_0.index t 0 * win0_0.size 0 = 0 ∧ win0_0.index t 1 * win0_0.size 1 = 0 := by
    rcases fin_N0 t with rfl | rfl | rfl | rfl | rfl | rfl | rfl | rfl <;> decide +kernel
  funext b
  refine Fin.ext ?_
  match b with
  | ⟨0, _⟩ => show win0_0.index t 0 * win0_0.size 0 + 1 * (i 0).val = (i 0).val; rw [e.1]; omega
  | ⟨1, _⟩ => show win0_0.index t 1 * win0_0.size 1 + 1 * (i 1).val = (i 1).val; rw [e.2]; omega

theorem emb_pairs (t : Fin cfg0.N) (i : S2x2048.Idx) : ((cfg0.win 1).blk t).view.emb i = i := by
  have e : win0_1.index t 0 * win0_1.size 0 = 0 ∧ win0_1.index t 1 * win0_1.size 1 = 0 := by
    rcases fin_N0 t with rfl | rfl | rfl | rfl | rfl | rfl | rfl | rfl <;> decide +kernel
  funext b
  refine Fin.ext ?_
  match b with
  | ⟨0, _⟩ => show win0_1.index t 0 * win0_1.size 0 + 1 * (i 0).val = (i 0).val; rw [e.1]; omega
  | ⟨1, _⟩ => show win0_1.index t 1 * win0_1.size 1 + 1 * (i 1).val = (i 1).val; rw [e.2]; omega

theorem row_bound (t : Fin cfg0.N) (r : Fin 64) : 64 * t.val + r.val < 512 := by
  have := N_0
  have := t.isLt
  have h : cfg0.N = 8 := N_0
  omega

theorem emb_picture (t : Fin cfg0.N) (a : Fin 3) (r : Fin 64) (w : Fin 512) :
    ((cfg0.win 2).blk t).view.emb (ValueIdx.ix3 a r w : S3x64x512.Idx) = (ValueIdx.ix3 a ⟨64 * t.val + r.val, row_bound t r⟩ w : S3x512x512.Idx) := by
  have e : win0_2.index t 0 * win0_2.size 0 = 0 ∧ win0_2.index t 1 * win0_2.size 1 = 64 * t.val ∧ win0_2.index t 2 * win0_2.size 2 = 0 := by
    rcases fin_N0 t with rfl | rfl | rfl | rfl | rfl | rfl | rfl | rfl <;> decide +kernel
  funext b
  refine Fin.ext ?_
  match b with
  | ⟨0, _⟩ => show win0_2.index t 0 * win0_2.size 0 + 1 * a.val = a.val; rw [e.1]; omega
  | ⟨1, _⟩ => show win0_2.index t 1 * win0_2.size 1 + 1 * r.val = 64 * t.val + r.val; rw [e.2.1]; omega
  | ⟨2, _⟩ => show win0_2.index t 2 * win0_2.size 2 + 1 * w.val = w.val; rw [e.2.2]; omega

theorem emb_strip (t : Fin cfg0.N) (w : Fin 512) :
    ((cfg0.win 3).blk t).view.emb (ValueIdx.ix3 0 0 w : S1x1x512.Idx) = (ValueIdx.ix3 ⟨t.val, t.isLt⟩ 0 w : S8x1x512.Idx) := by
  have e : win0_3.index t 0 * win0_3.size 0 = t.val ∧ win0_3.index t 1 * win0_3.size 1 = 0 ∧ win0_3.index t 2 * win0_3.size 2 = 0 := by
    rcases fin_N0 t with rfl | rfl | rfl | rfl | rfl | rfl | rfl | rfl <;> decide +kernel
  funext b
  refine Fin.ext ?_
  match b with
  | ⟨0, _⟩ => show win0_3.index t 0 * win0_3.size 0 + 1 * 0 = t.val; rw [e.1]; omega
  | ⟨1, _⟩ => show win0_3.index t 1 * win0_3.size 1 + 1 * 0 = 0; rw [e.2.1]
  | ⟨2, _⟩ => show win0_3.index t 2 * win0_3.size 2 + 1 * w.val = w.val; rw [e.2.2]; omega

section
variable {F : FTy → Type} [FloatOps F]
variable (m : (ℓ : Loc nD τ sig) → Buf (Elt F) ℓ) (c : Dev nD)

theorem block_faces (t : Fin cfg0.N) : iblk m c 0 t = V0 m c (Proc.devRef .tc main_v189) := by
  funext i
  exact congrArg (V m c main_v189) (emb_faces t i)

theorem block_pairs (t : Fin cfg0.N) : iblk m c 1 t = V0 m c (Proc.devRef .tc main_v212) := by
  funext i
  exact congrArg (V m c main_v212) (emb_pairs t i)

theorem block_picture (t : Fin cfg0.N) (a : Fin 3) (r : Fin 64) (w : Fin 512) :
    iblk m c 2 t (ValueIdx.ix3 a r w : S3x64x512.Idx)
      = V0 m c (Proc.devRef .tc main_v214) (ValueIdx.ix3 a ⟨64 * t.val + r.val, row_bound t r⟩ w : S3x512x512.Idx) :=
  congrArg (V m c main_v214) (emb_picture t a r w)

/-- The array of the tiles' rows. -/
def strips : Buf (Elt F) ((c.tc : Thread nD τ).loc main_v215) := fun i => outAt m c ⟨(i 0).val, (i 0).isLt⟩ (ValueIdx.ix3 0 0 (i 2))

theorem strip_written (t : Fin cfg0.N) : (dats m 0 c).flushed 3 t = ((cfg0.win 3).blk t).view.read (Elt F) (strips m c) := by
  show (cfg0.win 3).cut (grid0.coords t) ((dats m 0 c).after 3 t) = _
  rw [after_out]
  funext (j : S1x1x512.Idx)
  have hj : j = ValueIdx.ix3 0 0 (j 2) := by
    funext b
    match b with
    | ⟨0, _⟩ => exact Subsingleton.elim (α := Fin 1) _ _
    | ⟨1, _⟩ => exact Subsingleton.elim (α := Fin 1) _ _
    | ⟨2, _⟩ => rfl
  obtain ⟨w, rfl⟩ : ∃ w : Fin 512, j = ValueIdx.ix3 0 0 w := ⟨j 2, hj⟩
  exact (congrArg (strips m c) (emb_strip t w)).symm

theorem strips_final : (dats m 0 c).arrAt 3 cfg0.N = strips m c :=
  (dats m 0 c).arrAt_eq_of_cover 3 (strips m c) (fun t _ => strip_written m c t) fun i =>
    ⟨⟨(i 0).val, (i 0).isLt⟩, flush0_3 _, by
      show i ∈ ((View.whole main_v215).slice (win0_3.rect ⟨(i 0).val, (i 0).isLt⟩)).set
      rw [View.set_slice_whole, Rect.mem_set_unit]
      generalize ht : (⟨(i 0).val, (i 0).isLt⟩ : Fin grid0.N) = t
      have e : win0_3.index t 0 * win0_3.size 0 = t.val ∧ win0_3.index t 1 * win0_3.size 1 = 0 ∧ win0_3.index t 2 * win0_3.size 2 = 0 := by
        rcases fin_N0 t with rfl | rfl | rfl | rfl | rfl | rfl | rfl | rfl <;> decide +kernel
      have s : win0_3.xsize (grid0.coords t) 0 = 1 ∧ win0_3.xsize (grid0.coords t) 1 = 1 ∧ win0_3.xsize (grid0.coords t) 2 = 512 := by
        rcases fin_N0 t with rfl | rfl | rfl | rfl | rfl | rfl | rfl | rfl <;> decide +kernel
      have h0 : t.val = (i 0).val := by rw [← ht]
      have h1 : (i 1).val < 1 := (i 1).isLt
      have h2 : (i 2).val < 512 := (i 2).isLt
      intro a
      match a with
      | ⟨0, _⟩ =>
        show win0_3.index t 0 * win0_3.size 0 ≤ (i 0 : Nat) ∧ (i 0 : Nat) < win0_3.index t 0 * win0_3.size 0 + win0_3.xsize (grid0.coords t) 0
        rw [e.1, s.1]; omega
      | ⟨1, _⟩ =>
        show win0_3.index t 1 * win0_3.size 1 ≤ (i 1 : Nat) ∧ (i 1 : Nat) < win0_3.index t 1 * win0_3.size 1 + win0_3.xsize (grid0.coords t) 1
        rw [e.2.1, s.2.1]; omega
      | ⟨2, _⟩ =>
        show win0_3.index t 2 * win0_3.size 2 ≤ (i 2 : Nat) ∧ (i 2 : Nat) < win0_3.index t 2 * win0_3.size 2 + win0_3.xsize (grid0.coords t) 2
        rw [e.2.2, s.2.2]; omega⟩

/-- The result: the rows' array added up. -/
theorem read_result : Pipeline.afterTail₀ cfgs (dats m) 0 (V0 m) [hostOps1] c main_v216
    = Host.reduceAdd (strips m c) (constant S_ .f32 0x00000000#32) reducesTo_S8x1x512_S_d0_1_2 h_S_ := by
  rw [← strips_final m c]
  unfold Pipeline.afterTail₀
  simp only [List.flatten_cons, List.flatten_nil, List.append_nil]
  after_reads_simp
  exact congrArg (fun x => Host.reduceAdd x (constant S_ .f32 0x00000000#32) reducesTo_S8x1x512_S_d0_1_2 h_S_)
    (Pipeline.withArrays_arr spec0 launch0.win.arr_inj c (V0 m c) (fun w => (dats m 0 c).arrAt w cfg0.N) 3)

end

end Cert.Proof.KernelIdeal
-- ==== Proof.SameTotal.lean ====
module

public import proofs.«01_k».proof.Proof.KernelIdealTiles
public import Idealize.ShloMosaic.Lib.Pointwise.Reduce

/-! The kernel's tiles add up to the reference's sum. -/

@[expose] public section

noncomputable section

namespace Cert.Proof.KernelIdeal
open Idealize.ShloMosaic
open Cert.KernelIdeal Cert.KernelIdeal.Gen
open Cert.ReferenceIdeal.Read

theorem tile_row (t : Fin 8) (r : Fin 64) : 64 * t.val + r.val < 512 := by omega

/-- Rows tile by tile are all the rows. -/
theorem sum_rows (f : Fin 512 → EReal) : ∑ t : Fin 8, ∑ r : Fin 64, f ⟨64 * t.val + r.val, tile_row t r⟩ = ∑ h : Fin 512, f h := by
  rw [← Fintype.sum_prod_type']
  exact Fintype.sum_equiv (finProdFinEquiv (m := 8) (n := 64)) _ _ fun p => congrArg f (Fin.ext (by
    show 64 * p.1.val + p.2.val = (finProdFinEquiv p).val
    rw [finProdFinEquiv_apply_val]
    omega))

/-- A picture's indices, channel by channel from the last. -/
def pictureIdx : Fin 3 × Fin 512 × Fin 512 ≃ Cert.ReferenceIdeal.S1x3x512x512.Idx where
  toFun p := ValueIdx.ix4 0 p.1.rev p.2.1 p.2.2
  invFun i := (Fin.rev (i 1), i 2, i 3)
  left_inv p := Prod.ext (Fin.rev_rev p.1) rfl
  right_inv i := by
    funext b
    match b with
    | ⟨0, _⟩ => exact Subsingleton.elim (α := Fin 1) _ _
    | ⟨1, _⟩ => exact Fin.rev_rev (n := 3) (i 1)
    | ⟨2, _⟩ => rfl
    | ⟨3, _⟩ => rfl

theorem sum_picture (v : Cert.ReferenceIdeal.S1x3x512x512.Idx → EReal) (g : Fin 3 → Fin 512 → Fin 512 → EReal)
    (hv : ∀ a h w, v (ValueIdx.ix4 0 (Fin.rev a) h w) = g a h w) :
    ∑ t : Fin 8, ∑ k : Fin 1, ∑ w : Fin 512, ∑ r : Fin 64, (g 0 ⟨64 * t.val + r.val, tile_row t r⟩ w + g 1 ⟨64 * t.val + r.val, tile_row t r⟩ w
      + g 2 ⟨64 * t.val + r.val, tile_row t r⟩ w) = ∑ j : Cert.ReferenceIdeal.S1x3x512x512.Idx, v j := by
  have left : ∀ t : Fin 8, ∑ k : Fin 1, ∑ w : Fin 512, ∑ r : Fin 64, (g 0 ⟨64 * t.val + r.val, tile_row t r⟩ w + g 1 ⟨64 * t.val + r.val, tile_row t r⟩ w
      + g 2 ⟨64 * t.val + r.val, tile_row t r⟩ w) = ∑ r : Fin 64, ∑ w : Fin 512, (g 0 ⟨64 * t.val + r.val, tile_row t r⟩ w
      + g 1 ⟨64 * t.val + r.val, tile_row t r⟩ w + g 2 ⟨64 * t.val + r.val, tile_row t r⟩ w) := fun t => by
    rw [Fin.sum_univ_one, Finset.sum_comm]
  rw [Finset.sum_congr rfl fun t _ => left t, sum_rows fun h => ∑ w : Fin 512, (g 0 h w + g 1 h w + g 2 h w),
    ← Fintype.sum_equiv pictureIdx (fun p => g p.1 p.2.1 p.2.2) v fun p => (hv p.1 p.2.1 p.2.2).symm,
    Fintype.sum_prod_type, Fin.sum_univ_three]
  simp only [Fintype.sum_prod_type, Finset.sum_add_distrib]

section
variable [Cert.Pre_general_position.Facts] (m : (ℓ : Loc nD τ sig) → Buf (Elt Ideal) ℓ) (c : Dev nD)
variable (hpre : Cert.Pre_general_position.fn (F := Ideal) (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5)) = fun _ => 1#1)

/-- A pixel's difference in a channel. -/
def gap (a : Fin 3) (h w : Fin 512) : EReal := drawing m c (ValueIdx.ix3 h w a) - (m (c, Proc.devRef .tc main_arg5) (ValueIdx.ix4 0 (Fin.rev a) h w) : EReal)

theorem chan_read (t : Fin cfg0.N) (a : Fin 3) (off : Fin 3 → ℕ) (inb : ∀ b, off b + S1x64x512.size b ≤ S3x64x512.size b)
    (ho : off = ![a.val, 0, 0]) (r : Fin 64) (w : Fin 512) :
    chan (F := Ideal) (iblk m c 2 t) off inb (ValueIdx.ix3 0 r w)
      = m (c, Proc.devRef .tc main_arg5) (ValueIdx.ix4 0 (Fin.rev a) ⟨64 * t.val + r.val, row_bound t r⟩ w) := by
  subst ho
  refine Eq.trans ?_ ((block_picture m c t a r w).trans (read_picture m c a ⟨64 * t.val + r.val, row_bound t r⟩ w))
  unfold chan VecWindow.window
  refine congrArg (iblk m c 2 t) ?_
  funext b
  refine Fin.ext ?_
  match b with
  | ⟨0, _⟩ => show a.val + 0 = a.val; omega
  | ⟨1, _⟩ => show 0 + 1 * r.val = r.val; omega
  | ⟨2, _⟩ => show 0 + 1 * w.val = w.val; omega

include hpre in
theorem tile_total (t : Fin cfg0.N) (w : Fin 512) : (outAt (F := Ideal) m c t (ValueIdx.ix3 0 0 w) : EReal)
    = ∑ r : Fin 64, (gap m c 0 ⟨64 * t.val + r.val, row_bound t r⟩ w * gap m c 0 ⟨64 * t.val + r.val, row_bound t r⟩ w
        + gap m c 1 ⟨64 * t.val + r.val, row_bound t r⟩ w * gap m c 1 ⟨64 * t.val + r.val, row_bound t r⟩ w
        + gap m c 2 ⟨64 * t.val + r.val, row_bound t r⟩ w * gap m c 2 ⟨64 * t.val + r.val, row_bound t r⟩ w) := by
  unfold outAt outVal
  rw [squares]
  refine Finset.sum_congr rfl fun r _ => ?_
  have same := same_colour m c hpre (grid0.coords t) r w ⟨64 * t.val + r.val, row_bound t r⟩ (by rw [coord_eq])
  unfold tileScr at same
  rw [← block_faces m c t, ← block_pairs m c t] at same
  have s0 := congrArg Prod.fst same
  have s1 := congrArg (fun p => p.2.1) same
  have s2 := congrArg (fun p => p.2.2) same
  unfold pix at s0 s1 s2
  dsimp only at s0 s1 s2
  rw [s0, s1, s2, chan_read m c t 0 ![0, 0, 0] inb_S3x64x512_S1x64x512_0_0_0 rfl, chan_read m c t 1 ![1, 0, 0] inb_S3x64x512_S1x64x512_1_0_0 rfl, chan_read m c t 2 ![2, 0, 0] inb_S3x64x512_S1x64x512_2_0_0 rfl]
  rfl

include hpre in
/-- The two sums. -/
theorem same_total : (Host.reduceAdd (F := Ideal) (φ := .f32) (strips (F := Ideal) m c) (constant S_ .f32 0x00000000#32) reducesTo_S8x1x512_S_d0_1_2 h_S_ :
    (⟨S_, .f32⟩ : BufTy).Contents (Elt Ideal))
    = val_main_v304 (F := Ideal) (m (c, Proc.devRef .tc main_arg0)) (m (c, Proc.devRef .tc main_arg1)) (m (c, Proc.devRef .tc main_arg2))
        (m (c, Proc.devRef .tc main_arg3)) (m (c, Proc.devRef .tc main_arg4)) (m (c, Proc.devRef .tc main_arg5)) := by
  funext i
  rw [val_main_v304_apply]
  refine (Ideal.hostReduceAdd_r3_a012 reducesTo_S8x1x512_S_d0_1_2 (strips (F := Ideal) m c) _ i).trans ?_
  refine congrArg₂ (fun a b : EReal => a + b) rfl ?_
  rw [← sum_picture _ (fun a h w => gap m c a h w * gap m c a h w)]
  · refine Finset.sum_congr rfl fun t _ => Finset.sum_congr rfl fun k _ => Finset.sum_congr rfl fun w _ => ?_
    exact tile_total m c hpre ⟨t.val, t.isLt⟩ w
  · intro a h w
    rw [val_main_v303_apply, val_main_v302_apply, Ref.read_image, Fin.rev_rev]
    rfl

end

end Cert.Proof.KernelIdeal
-- ==== Proof.lean ====
/- The claims about the mesh rasteriser, put together from the modules under Proof/. -/
module

public import proofs.«01_k».proof.Defs
public import proofs.«01_k».proof.Proof.Gen.Kernel
public import proofs.«01_k».proof.Proof.Gen.KernelIdeal
public import proofs.«01_k».proof.Proof.KernelFrame
public import proofs.«01_k».proof.Proof.KernelIdealFrame
public import proofs.«01_k».proof.Proof.SameTotal
public import proofs.«01_k».proof.Proof.GeneralFacts
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

section
open Cert.KernelIdeal Cert.KernelIdeal.Gen

variable [Cert.Pre_general_position.Facts] (m : (ℓ : Loc nD τ sig) → Buf (Elt Ideal) ℓ) (ρ : Dev nD → PrngReg)
  (hpre : Cert.Pre_KernelIdeal_general_position m)

/-- The reference's sum, of the kernel's arguments. -/
def total (c : Dev nD) : Buf (Elt Ideal) ((c.tc : Thread nD τ).loc main_v216) :=
  Cert.ReferenceIdeal.Read.val_main_v304 (F := Ideal) (m (c, Proc.devRef .tc main_arg0)) (m (c, Proc.devRef .tc main_arg1))
    (m (c, Proc.devRef .tc main_arg2)) (m (c, Proc.devRef .tc main_arg3)) (m (c, Proc.devRef .tc main_arg4)) (m (c, Proc.devRef .tc main_arg5))

include hpre in
/-- The kernel ends with the reference's sum. -/
theorem kernel_total : θ_run defs (onTc (τ := τ) (main (F := Ideal))) ⟨m, fun _ => 0, ρ⟩ (fun r => ∀ c : Dev nD,
      r.2.mem ((c.tc : Thread nD τ).loc main_v216) = total m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h.1 c).2 main_v216 (Pipeline.mem_restRefs_of main_v216 (by decide) (by decide))).trans
        ((KernelIdeal.read_result m c).trans (KernelIdeal.same_total m c (hpre c))),
      ((h.1 c).2 main_arg0 (Pipeline.mem_restRefs_of main_arg0 (by decide) (by decide))).trans (W_main_arg0 m (KernelIdeal.dats m) c),
      ((h.1 c).2 main_arg1 (Pipeline.mem_restRefs_of main_arg1 (by decide) (by decide))).trans (W_main_arg1 m (KernelIdeal.dats m) c),
      ((h.1 c).2 main_arg2 (Pipeline.mem_restRefs_of main_arg2 (by decide) (by decide))).trans (W_main_arg2 m (KernelIdeal.dats m) c),
      ((h.1 c).2 main_arg3 (Pipeline.mem_restRefs_of main_arg3 (by decide) (by decide))).trans (W_main_arg3 m (KernelIdeal.dats m) c),
      ((h.1 c).2 main_arg4 (Pipeline.mem_restRefs_of main_arg4 (by decide) (by decide))).trans (W_main_arg4 m (KernelIdeal.dats m) c),
      ((h.1 c).2 main_arg5 (Pipeline.mem_restRefs_of main_arg5 (by decide) (by decide))).trans (W_main_arg5 m (KernelIdeal.dats m) c)⟩)
    (KernelIdeal.run_main m ρ)

end

section
open Cert.ReferenceIdeal Cert.ReferenceIdeal.Gen

/-- The reference ends with its sum, of arguments that are given. -/
theorem reference_total (m : (ℓ : Loc nD τ sig) → Buf (Elt Ideal) ℓ) (ρ : Dev nD → PrngReg)
    (x0 : (c : Dev nD) → Buf (Elt Ideal) ((c.tc : Thread nD τ).loc main_arg0)) (x1 : (c : Dev nD) → Buf (Elt Ideal) ((c.tc : Thread nD τ).loc main_arg1))
    (x2 : (c : Dev nD) → Buf (Elt Ideal) ((c.tc : Thread nD τ).loc main_arg2)) (x3 : (c : Dev nD) → Buf (Elt Ideal) ((c.tc : Thread nD τ).loc main_arg3))
    (x4 : (c : Dev nD) → Buf (Elt Ideal) ((c.tc : Thread nD τ).loc main_arg4)) (x5 : (c : Dev nD) → Buf (Elt Ideal) ((c.tc : Thread nD τ).loc main_arg5))
    (h : ∀ c : Dev nD, m ((c.tc : Thread nD τ).loc main_arg0) = x0 c ∧ m ((c.tc : Thread nD τ).loc main_arg1) = x1 c
      ∧ m ((c.tc : Thread nD τ).loc main_arg2) = x2 c ∧ m ((c.tc : Thread nD τ).loc main_arg3) = x3 c
      ∧ m ((c.tc : Thread nD τ).loc main_arg4) = x4 c ∧ m ((c.tc : Thread nD τ).loc main_arg5) = x5 c) :
    θ_run defs (onTc (τ := τ) (main (F := Ideal))) ⟨m, fun _ => 0, ρ⟩ (fun r => ∀ c : Dev nD,
      r.2.mem ((c.tc : Thread nD τ).loc main_v304) = Read.val_main_v304 (F := Ideal) (x0 c) (x1 c) (x2 c) (x3 c) (x4 c) (x5 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨by
      obtain ⟨h0, h1, h2, h3, h4, h5⟩ := h c
      rw [← h0, ← h1, ← h2, ← h3, ← h4, ← h5]
      exact (hr c).1.trans (Read.val_main_v304_eq _), (hr c).2⟩) (Cert.ReferenceIdeal.Value.run m ρ)

end

theorem claim : Cert.Claim := ⟨Cert.Kernel.Gen.facts, Cert.KernelIdeal.Gen.facts, Cert.ReferenceIdeal.Gen.facts, general_facts,
  fun m ρ _ => Cert.Proof.Kernel.frame_run m ρ,
  fun m ρ _ => Cert.Proof.KernelIdeal.frame_run m ρ,
  fun m ρ _ => Cert.Proof.KernelIdeal.frame_run m ρ,
  fun m ρ _ => (θ_run _ _ _).mono (fun r h => ⟨fun c => (h c).2, sem_eq_zero_of_no_sems (by decide) r.2⟩) (Cert.ReferenceIdeal.Value.run m ρ),
  fun m ρ _ => (θ_run _ _ _).mono (fun r h => ⟨fun c => (h c).2, sem_eq_zero_of_no_sems (by decide) r.2⟩) (Cert.ReferenceIdeal.Value.run m ρ),
  trivial,
  fun m ρ m' ρ' hpre hargs => ⟨@total m, @kernel_total general_facts m ρ hpre,
    reference_total m' ρ' _ _ _ _ _ _ hargs⟩⟩

end Cert.Proof

end
